-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S2x20x2x1024 Cert.KernelIdeal.S2x20x1x1024
  ∧ IdealRules.bf16_pair.BufferStatement Cert.KernelIdeal.S40x2x1024 Cert.KernelIdeal.S40x1x1024
  ∧ IdealRules.bf16_pair.Statement Cert.KernelIdeal.S40x2048 Cert.KernelIdeal.S20x2048
  ∧ IdealRules.bf16_pair.Statement Cert.KernelIdeal.S40x128 Cert.KernelIdeal.S20x128
  ∧ IdealRules.bf16_pair.Statement Cert.KernelIdeal.S1x20x2x128 Cert.KernelIdeal.S1x20x1x128
  ∧ IdealRules.bf16_pair.Statement Cert.KernelIdeal.S80x1024 Cert.KernelIdeal.S40x1024
  ∧ IdealRules.bf16_pair.Statement Cert.KernelIdeal.S40x2x1024 Cert.KernelIdeal.S40x1x1024
  ∧ IdealRules.bf16_pair.Statement Cert.KernelIdeal.S1x1x2x256 Cert.KernelIdeal.S1x1x1x256
  ∧ IdealRules.bf16_pair.Statement Cert.KernelIdeal.S2x256 Cert.KernelIdeal.S1x256
  ∧ IdealRules.bf16_pair.Statement Cert.KernelIdeal.S1x2x256 Cert.KernelIdeal.S1x1x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1x5120 : Shape := ⟨3, ![24, 1, 5120]⟩
abbrev S5120x27648 : Shape := ⟨2, ![5120, 27648]⟩
abbrev S40x27648 : Shape := ⟨2, ![40, 27648]⟩
abbrev S40x55296 : Shape := ⟨2, ![40, 55296]⟩
abbrev S24x40x128 : Shape := ⟨3, ![24, 40, 128]⟩
abbrev S40x24x128 : Shape := ⟨3, ![40, 24, 128]⟩
abbrev S_ : Shape := ⟨0, ![]⟩
abbrev S40x24x128x1 : Shape := ⟨4, ![40, 24, 128, 1]⟩
abbrev S40x24x128x2 : Shape := ⟨4, ![40, 24, 128, 2]⟩
abbrev S40x24x256 : Shape := ⟨3, ![40, 24, 256]⟩
abbrev S40x48x256 : Shape := ⟨3, ![40, 48, 256]⟩
abbrev S24x55296 : Shape := ⟨2, ![24, 55296]⟩
abbrev S5120x1024 : Shape := ⟨2, ![5120, 1024]⟩
abbrev S40x1024 : Shape := ⟨2, ![40, 1024]⟩
abbrev S40x2048 : Shape := ⟨2, ![40, 2048]⟩
abbrev S24x2048 : Shape := ⟨2, ![24, 2048]⟩
abbrev S2x20x1024 : Shape := ⟨3, ![2, 20, 1024]⟩
abbrev S20x2048 : Shape := ⟨2, ![20, 2048]⟩
abbrev S20x256 : Shape := ⟨2, ![20, 256]⟩
abbrev S40x128 : Shape := ⟨2, ![40, 128]⟩
abbrev S20x128 : Shape := ⟨2, ![20, 128]⟩
abbrev S40x128x1 : Shape := ⟨3, ![40, 128, 1]⟩
abbrev S1x20x128 : Shape := ⟨3, ![1, 20, 128]⟩
abbrev S40x1x1024 : Shape := ⟨3, ![40, 1, 1024]⟩
abbrev S40x2x1024 : Shape := ⟨3, ![40, 2, 1024]⟩
abbrev S80x1024 : Shape := ⟨2, ![80, 1024]⟩
abbrev S48x256 : Shape := ⟨2, ![48, 256]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S1x1x256 : Shape := ⟨3, ![1, 1, 256]⟩
abbrev S1x256 : Shape := ⟨2, ![1, 256]⟩
abbrev S2x256 : Shape := ⟨2, ![2, 256]⟩
abbrev S1x2x256 : Shape := ⟨3, ![1, 2, 256]⟩
abbrev S1x48x256 : Shape := ⟨3, ![1, 48, 256]⟩
abbrev S24x128 : Shape := ⟨2, ![24, 128]⟩
abbrev S24x128x1 : Shape := ⟨3, ![24, 128, 1]⟩
abbrev S24x256 : Shape := ⟨2, ![24, 256]⟩

abbrev nBuf : Space → Nat
  | .hbm => 18
  | .vmem => 11
  | .smem => 0
  | _ => 0

abbrev bufTy : (tb : Table) → Fin (tcTables nBuf tb) → BufTy
  | .hbm, ⟨0, _⟩ => ⟨S24x1x5120, .bf16⟩
  | .hbm, ⟨1, _⟩ => ⟨S5120x27648, .i8⟩
  | .hbm, ⟨2, _⟩ => ⟨S40x27648, .i8⟩
  | .hbm, ⟨3, _⟩ => ⟨S40x55296, .bf16⟩
  | .hbm, ⟨4, _⟩ => ⟨S24x40x128, .bf16⟩
  | .hbm, ⟨5, _⟩ => ⟨S40x24x128, .bf16⟩
  | .hbm, ⟨6, _⟩ => ⟨S_, .bf16⟩
  | .hbm, ⟨7, _⟩ => ⟨S40x24x128, .bf16⟩
  | .hbm, ⟨8, _⟩ => ⟨S40x24x128x1, .bf16⟩
  | .hbm, ⟨9, _⟩ => ⟨S40x24x128x1, .bf16⟩
  | .hbm, ⟨10, _⟩ => ⟨S40x24x128x2, .bf16⟩
  | .hbm, ⟨11, _⟩ => ⟨S40x24x256, .bf16⟩
  | .hbm, ⟨12, _⟩ => ⟨S40x24x128x1, .bf16⟩
  | .hbm, ⟨13, _⟩ => ⟨S40x24x128x1, .bf16⟩
  | .hbm, ⟨14, _⟩ => ⟨S40x24x128x2, .bf16⟩
  | .hbm, ⟨15, _⟩ => ⟨S40x24x256, .bf16⟩
  | .hbm, ⟨16, _⟩ => ⟨S40x48x256, .bf16⟩
  | .hbm, ⟨17, _⟩ => ⟨S24x55296, .bf16⟩
  | .local _ .vmem, ⟨0, _⟩ => ⟨S40x48x256, .bf16⟩
  | .local _ .vmem, ⟨1, _⟩ => ⟨S5120x1024, .i8⟩
  | .local _ .vmem, ⟨2, _⟩ => ⟨S5120x1024, .i8⟩
  | .local _ .vmem, ⟨3, _⟩ => ⟨S40x1024, .i8⟩
  | .local _ .vmem, ⟨4, _⟩ => ⟨S40x1024, .i8⟩
  | .local _ .vmem, ⟨5, _⟩ => ⟨S40x2048, .bf16⟩
  | .local _ .vmem, ⟨6, _⟩ => ⟨S40x2048, .bf16⟩
  | .local _ .vmem, ⟨7, _⟩ => ⟨S24x2048, .bf16⟩
  | .local _ .vmem, ⟨8, _⟩ => ⟨S24x2048, .bf16⟩
  | .local _ .vmem, ⟨9, _⟩ => ⟨S2x20x1024, .i32⟩
  | .local _ .vmem, ⟨10, _⟩ => ⟨S40x1024, .i32⟩
  | _, _ => ⟨S24x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![27], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x48x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5120x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S40x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
abbrev S2x20x2x1024 : Shape := ⟨4, ![2, 20, 2, 1024]⟩
abbrev S2x20x1x1024 : Shape := ⟨4, ![2, 20, 1, 1024]⟩
abbrev S1x20x2x128 : Shape := ⟨4, ![1, 20, 2, 128]⟩
abbrev S1x20x1x128 : Shape := ⟨4, ![1, 20, 1, 128]⟩
abbrev S1x1x2x256 : Shape := ⟨4, ![1, 1, 2, 256]⟩
abbrev S1x1x1x256 : Shape := ⟨4, ![1, 1, 1, 256]⟩
  | .local _ .vmem, ⟨9, _⟩ => ⟨S2x20x2x1024, .bf16⟩
  | .local _ .vmem, ⟨10, _⟩ => ⟨S40x2x1024, .bf16⟩
variable {F : FTy → Type} [FloatOps F]
-- ==== ReferenceIdeal.lean ====
abbrev S24x1x5120 : Shape := ⟨3, ![24, 1, 5120]⟩
abbrev S5120x27648 : Shape := ⟨2, ![5120, 27648]⟩
abbrev S40x27648 : Shape := ⟨2, ![40, 27648]⟩
abbrev S40x55296 : Shape := ⟨2, ![40, 55296]⟩
abbrev S_ : Shape := ⟨0, ![]⟩
abbrev S40x128x27648 : Shape := ⟨3, ![40, 128, 27648]⟩
abbrev S40x1x27648 : Shape := ⟨3, ![40, 1, 27648]⟩
abbrev S24x1x27648 : Shape := ⟨3, ![24, 1, 27648]⟩
abbrev S24x1x27648x1 : Shape := ⟨4, ![24, 1, 27648, 1]⟩
abbrev S24x1x27648x2 : Shape := ⟨4, ![24, 1, 27648, 2]⟩
abbrev S24x1x55296 : Shape := ⟨3, ![24, 1, 55296]⟩
abbrev S24x55296 : Shape := ⟨2, ![24, 55296]⟩

abbrev nBuf : Space → Nat
  | .hbm => 62
  | .vmem => 0
  | .smem => 0
  | _ => 0

abbrev bufTy : (tb : Table) → Fin (tcTables nBuf tb) → BufTy
  | .hbm, ⟨0, _⟩ => ⟨S24x1x5120, .bf16⟩
  | .hbm, ⟨1, _⟩ => ⟨S5120x27648, .i8⟩
  | .hbm, ⟨2, _⟩ => ⟨S40x27648, .i8⟩
  | .hbm, ⟨3, _⟩ => ⟨S40x55296, .bf16⟩
  | .hbm, ⟨4, _⟩ => ⟨S5120x27648, .i32⟩
  | .hbm, ⟨5, _⟩ => ⟨S_, .i32⟩
  | .hbm, ⟨6, _⟩ => ⟨S5120x27648, .i32⟩
  | .hbm, ⟨7, _⟩ => ⟨S5120x27648, .i32⟩
  | .hbm, ⟨8, _⟩ => ⟨S_, .i32⟩
  | .hbm, ⟨9, _⟩ => ⟨S5120x27648, .i32⟩
  | .hbm, ⟨10, _⟩ => ⟨S5120x27648, .i32⟩
  | .hbm, ⟨11, _⟩ => ⟨S5120x27648, .bf16⟩
  | .hbm, ⟨12, _⟩ => ⟨S40x128x27648, .bf16⟩
  | .hbm, ⟨13, _⟩ => ⟨S40x27648, .i32⟩
  | .hbm, ⟨14, _⟩ => ⟨S_, .i32⟩
  | .hbm, ⟨15, _⟩ => ⟨S40x27648, .i32⟩
  | .hbm, ⟨16, _⟩ => ⟨S40x27648, .i32⟩
  | .hbm, ⟨17, _⟩ => ⟨S_, .i32⟩
  | .hbm, ⟨18, _⟩ => ⟨S40x27648, .i32⟩
  | .hbm, ⟨19, _⟩ => ⟨S40x27648, .i32⟩
  | .hbm, ⟨20, _⟩ => ⟨S40x27648, .bf16⟩
  | .hbm, ⟨21, _⟩ => ⟨S40x1x27648, .bf16⟩
  | .hbm, ⟨22, _⟩ => ⟨S40x27648, .bf16⟩
  | .hbm, ⟨23, _⟩ => ⟨S40x1x27648, .bf16⟩
  | .hbm, ⟨24, _⟩ => ⟨S40x128x27648, .bf16⟩
  | .hbm, ⟨25, _⟩ => ⟨S40x128x27648, .bf16⟩
  | .hbm, ⟨26, _⟩ => ⟨S40x128x27648, .bf16⟩
  | .hbm, ⟨27, _⟩ => ⟨S40x128x27648, .bf16⟩
  | .hbm, ⟨28, _⟩ => ⟨S5120x27648, .bf16⟩
  | .hbm, ⟨29, _⟩ => ⟨S24x1x27648, .f32⟩
  | .hbm, ⟨30, _⟩ => ⟨S5120x27648, .i32⟩
  | .hbm, ⟨31, _⟩ => ⟨S_, .i32⟩
  | .hbm, ⟨32, _⟩ => ⟨S5120x27648, .i32⟩
  | .hbm, ⟨33, _⟩ => ⟨S5120x27648, .i32⟩
  | .hbm, ⟨34, _⟩ => ⟨S_, .i32⟩
  | .hbm, ⟨35, _⟩ => ⟨S5120x27648, .i32⟩
  | .hbm, ⟨36, _⟩ => ⟨S5120x27648, .i32⟩
  | .hbm, ⟨37, _⟩ => ⟨S5120x27648, .bf16⟩
  | .hbm, ⟨38, _⟩ => ⟨S40x128x27648, .bf16⟩
  | .hbm, ⟨39, _⟩ => ⟨S40x27648, .i32⟩
  | .hbm, ⟨40, _⟩ => ⟨S_, .i32⟩
  | .hbm, ⟨41, _⟩ => ⟨S40x27648, .i32⟩
  | .hbm, ⟨42, _⟩ => ⟨S40x27648, .i32⟩
  | .hbm, ⟨43, _⟩ => ⟨S_, .i32⟩
  | .hbm, ⟨44, _⟩ => ⟨S40x27648, .i32⟩
  | .hbm, ⟨45, _⟩ => ⟨S40x27648, .i32⟩
  | .hbm, ⟨46, _⟩ => ⟨S40x27648, .bf16⟩
  | .hbm, ⟨47, _⟩ => ⟨S40x1x27648, .bf16⟩
  | .hbm, ⟨48, _⟩ => ⟨S40x27648, .bf16⟩
  | .hbm, ⟨49, _⟩ => ⟨S40x1x27648, .bf16⟩
  | .hbm, ⟨50, _⟩ => ⟨S40x128x27648, .bf16⟩
  | .hbm, ⟨51, _⟩ => ⟨S40x128x27648, .bf16⟩
  | .hbm, ⟨52, _⟩ => ⟨S40x128x27648, .bf16⟩
  | .hbm, ⟨53, _⟩ => ⟨S40x128x27648, .bf16⟩
  | .hbm, ⟨54, _⟩ => ⟨S5120x27648, .bf16⟩
  | .hbm, ⟨55, _⟩ => ⟨S24x1x27648, .f32⟩
  | .hbm, ⟨56, _⟩ => ⟨S24x1x27648x1, .f32⟩
  | .hbm, ⟨57, _⟩ => ⟨S24x1x27648x1, .f32⟩
  | .hbm, ⟨58, _⟩ => ⟨S24x1x27648x2, .f32⟩
  | .hbm, ⟨59, _⟩ => ⟨S24x1x55296, .f32⟩
  | .hbm, ⟨60, _⟩ => ⟨S24x1x55296, .bf16⟩
  | .hbm, ⟨61, _⟩ => ⟨S24x55296, .bf16⟩
  | _, _ => ⟨S24x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_5 : Ref sig .tc := ⟨.hbm, 40, rfl⟩
abbrev main_v30 : Ref sig .tc := ⟨.hbm, 41, rfl⟩
abbrev main_v31 : Ref sig .tc := ⟨.hbm, 42, rfl⟩
abbrev main_c_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩

abbrev nD : Nat := 1
abbrev τ : Topo := Topo.v7x

variable {F : FTy → Type} [FloatOps F]
-- ==== Proof.Spec.lean ====
/-
  The mathematics both programs compute, in plain words: the two 4-bit fields of a byte, one dequantized weight, one
  element of the result; and the facts of the bytes that say which integer operations read a field.
-/
module

public import Idealize.ShloMosaic.Lib.Pipeline.ValueKit
public import Idealize.ShloMosaic.PureOps.Ideal.Laws

@[expose] public section

noncomputable section

namespace Cert.Awq

open Idealize.ShloMosaic

/-- Field `h` of a packed byte: its low four bits for `h = 0`, its high four bits for `h = 1`. -/
def fieldNat (h : ℕ) (b : BitVec 8) : ℕ := b.toNat / 16 ^ h % 16

/-- The field, as a number. -/
def field (h : ℕ) (b : BitVec 8) : EReal := ((fieldNat h b : ℝ) : EReal)

/-- The kernel's low field: mask the widened byte with 15. -/
theorem kernel_low_nat : ∀ b : Fin 256,
    (IntOp.andi ((BitVec.ofFin b : BitVec 8).setWidth 32) 15#32).toInt = (fieldNat 0 (BitVec.ofFin b) : ℤ) := by
  decide +kernel

/-- The kernel's high field: shift the widened byte right by four. -/
theorem kernel_high_nat : ∀ b : Fin 256,
    (IntOp.shrsi .vector ((BitVec.ofFin b : BitVec 8).setWidth 32) 4#32).toInt = (fieldNat 1 (BitVec.ofFin b) : ℤ) := by
  decide +kernel

/-- The reference's low field: shift the widened byte by nothing and mask it with 15. -/
theorem host_low_nat : ∀ b : Fin 256,
    (IntOp.andi (IntOp.shrui .host ((BitVec.ofFin b : BitVec 8).setWidth 32) 0#32) 15#32).toNat
      = fieldNat 0 (BitVec.ofFin b) := by
  decide +kernel

/-- The reference's high field: shift the widened byte right by four and mask it with 15. -/
theorem host_high_nat : ∀ b : Fin 256,
    (IntOp.andi (IntOp.shrui .host ((BitVec.ofFin b : BitVec 8).setWidth 32) 4#32) 15#32).toNat
      = fieldNat 1 (BitVec.ofFin b) := by
  decide +kernel

theorem kernel_low (b : BitVec 8) : (((IntOp.andi (b.setWidth 32) 15#32).toInt : ℝ) : EReal) = field 0 b := by
  have h := kernel_low_nat b.toFin
  simp only [BitVec.ofFin_toFin] at h
  rw [h, field]; norm_cast

theorem kernel_high (b : BitVec 8) : (((IntOp.shrsi .vector (b.setWidth 32) 4#32).toInt : ℝ) : EReal) = field 1 b := by
  have h := kernel_high_nat b.toFin
  simp only [BitVec.ofFin_toFin] at h
  rw [h, field]; norm_cast

theorem host_low (b : BitVec 8) :
    (((IntOp.andi (IntOp.shrui .host (b.setWidth 32) 0#32) 15#32).toNat : ℝ) : EReal) = field 0 b := by
  have h := host_low_nat b.toFin
  simp only [BitVec.ofFin_toFin] at h
  rw [h, field]

theorem host_high (b : BitVec 8) :
    (((IntOp.andi (IntOp.shrui .host (b.setWidth 32) 4#32) 15#32).toNat : ℝ) : EReal) = field 1 b := by
  have h := host_high_nat b.toFin
  simp only [BitVec.ofFin_toFin] at h
  rw [h, field]

abbrev SX : Shape := ⟨3, ![24, 1, 5120]⟩
abbrev SQ : Shape := ⟨2, ![5120, 27648]⟩
abbrev SZ : Shape := ⟨2, ![40, 27648]⟩
abbrev SS : Shape := ⟨2, ![40, 55296]⟩

/-- The dequantized weight of input row `d` for result column `col`: the field `col % 2` of the packed column `col / 2`,
    less that field of the group's zero point, times the group's scale. -/
def weight (q : SQ.Idx → BitVec 8) (z : SZ.Idx → BitVec 8) (s : SS.Idx → EReal) (d : Fin 5120) (col : Fin 55296) : EReal :=
  (field (col.val % 2) (q (ix2 d ⟨col.val / 2, by omega⟩))
      - field (col.val % 2) (z (ix2 ⟨d.val / 128, by omega⟩ ⟨col.val / 2, by omega⟩)))
    * s (ix2 ⟨d.val / 128, by omega⟩ col)

/-- One element of the result: row `r` of the activations against the dequantized column. -/
def result (x : SX.Idx → EReal) (q : SQ.Idx → BitVec 8) (z : SZ.Idx → BitVec 8) (s : SS.Idx → EReal) (r : Fin 24)
    (col : Fin 55296) : EReal :=
  ∑ d : Fin 5120, x (ix3 r 0 d) * weight q z s d col

end Cert.Awq

end
-- ==== Proof.RefValue.lean ====
/-
  The reference, read at an element: `y[r, col]` is the sum over the input rows of the activation times the dequantized
  weight, in the words of `Spec`.
-/
module

public import proofs.«01_k».proof.Proof.Spec
public import proofs.«01_k».proof.Proof.Gen.ReferenceIdeal.Read

@[expose] public section

set_option maxRecDepth 16384

noncomputable section

namespace Cert.Awq

open Idealize.ShloMosaic Cert.ReferenceIdeal Cert.ReferenceIdeal.Gen Cert.ReferenceIdeal.Read

variable (x : SX.Idx → EReal) (q : SQ.Idx → BitVec 8) (z : SZ.Idx → BitVec 8) (s : SS.Idx → EReal)

/-- Every second column of the scales, from column `o` on. -/
theorem slice_apply (o : ℕ) (h : S40x55296.SlicesBy ![0, o] ![1, 2] S40x27648) (g : Fin 40) (c : Fin 27648) (k : Fin 55296)
    (hk : k.val = 2 * c.val + o) : Host.slice S40x27648 ![0, o] ![1, 2] s h (ix2 g c) = s (ix2 g k) := by
  unfold Host.slice
  congr 1
  funext a
  apply Fin.ext
  match a with
  | ⟨0, _⟩ => simp
  | ⟨1, _⟩ => simp; omega

/-- The dequantized low field: the weight of an even result column. -/
theorem low_apply (d : Fin 5120) (c : Fin 27648) (k : Fin 55296) (hk : k.val = 2 * c.val) :
    val_main_v20 (F := Ideal) q z s (ix2 d c) = weight q z s d k := by
  have hd : d.val / 128 < 40 := by omega
  have e0 : k.val % 2 = 0 := by omega
  have e1 : k.val / 2 = c.val := by omega
  have hq : val_main_v17 (F := Ideal) q z (idx_main_v20 (ix2 d c))
      = field 0 (q (ix2 d c)) - field 0 (z (ix2 ⟨d.val / 128, hd⟩ c)) := by
    rw [val_main_v17_apply, val_main_v6_apply, val_main_v5_apply, val_main_v4_apply, val_main_v2_apply, val_main_v0_apply,
      val_main_v16_apply, val_main_v13_apply, val_main_v12_apply, val_main_v11_apply, val_main_v9_apply, val_main_v7_apply,
      ← host_low, ← host_low]
    have i1 : idx_main_v6 (idx_main_v20 (ix2 d c)) = ix2 d c := by
      funext a; apply Fin.ext; match a with
      | ⟨0, _⟩ => simp; omega
      | ⟨1, _⟩ => simp
    have i2 : idx_main_v13 (idx_main_v16 (idx_main_v20 (ix2 d c))) = ix2 ⟨d.val / 128, hd⟩ c := by
      funext a; apply Fin.ext; match a with
      | ⟨0, _⟩ => simp; omega
      | ⟨1, _⟩ => simp
    rw [i1, i2]
    rfl
  rw [val_main_v20_apply, val_main_v19_apply, hq, val_main_v18_apply, val_main_v15_apply]
  have i3 : idx_main_v15 (idx_main_v18 (idx_main_v20 (ix2 d c))) = ix2 ⟨d.val / 128, hd⟩ c := by
    funext a; apply Fin.ext; match a with
    | ⟨0, _⟩ => simp; omega
    | ⟨1, _⟩ => simp
  rw [i3, val_main_v14, slice_apply s 0 _ _ c k (by omega), weight]
  simp only [e0, e1]
  rfl

/-- The dequantized high field: the weight of an odd result column. -/
theorem high_apply (d : Fin 5120) (c : Fin 27648) (k : Fin 55296) (hk : k.val = 2 * c.val + 1) :
    val_main_v42 (F := Ideal) q z s (ix2 d c) = weight q z s d k := by
  have hd : d.val / 128 < 40 := by omega
  have e0 : k.val % 2 = 1 := by omega
  have e1 : k.val / 2 = c.val := by omega
  have hq : val_main_v39 (F := Ideal) q z (idx_main_v42 (ix2 d c))
      = field 1 (q (ix2 d c)) - field 1 (z (ix2 ⟨d.val / 128, hd⟩ c)) := by
    rw [val_main_v39_apply, val_main_v28_apply, val_main_v27_apply, val_main_v26_apply, val_main_v24_apply,
      val_main_v22_apply, val_main_v38_apply, val_main_v35_apply, val_main_v34_apply, val_main_v33_apply,
      val_main_v31_apply, val_main_v29_apply, ← host_high, ← host_high]
    have i1 : idx_main_v28 (idx_main_v42 (ix2 d c)) = ix2 d c := by
      funext a; apply Fin.ext; match a with
      | ⟨0, _⟩ => simp; omega
      | ⟨1, _⟩ => simp
    have i2 : idx_main_v35 (idx_main_v38 (idx_main_v42 (ix2 d c))) = ix2 ⟨d.val / 128, hd⟩ c := by
      funext a; apply Fin.ext; match a with
      | ⟨0, _⟩ => simp; omega
      | ⟨1, _⟩ => simp
    rw [i1, i2]
    rfl
  rw [val_main_v42_apply, val_main_v41_apply, hq, val_main_v40_apply, val_main_v37_apply]
  have i3 : idx_main_v37 (idx_main_v40 (idx_main_v42 (ix2 d c))) = ix2 ⟨d.val / 128, hd⟩ c := by
    funext a; apply Fin.ext; match a with
    | ⟨0, _⟩ => simp; omega
    | ⟨1, _⟩ => simp
  rw [i3, val_main_v36, slice_apply s 1 _ _ c k (by omega), weight]
  simp only [e0, e1]
  rfl

/-- The reference's result at row `r` and column `col`. -/
theorem reference_apply (r : Fin 24) (col : Fin 55296) :
    val_main_v49 (F := Ideal) x q z s (ix2 r col) = result x q z s r col := by
  have hc : col.val / 2 < 27648 := by omega
  have i0 : idx_main_v47 (idx_main_v49 (ix2 r col)) = ix4 r 0 ⟨col.val / 2, hc⟩ ⟨col.val % 2, by omega⟩ := by
    funext a; apply Fin.ext; match a with
    | ⟨0, _⟩ => simp; omega
    | ⟨1, _⟩ => simp
    | ⟨2, _⟩ => simp; omega
    | ⟨3, _⟩ => simp; omega
  rw [val_main_v49_apply, val_main_v48_apply, val_main_v47_apply, i0, val_main_v46]
  rcases Nat.mod_two_eq_zero_or_one col.val with h | h
  · refine Eq.trans (concatenate_pair_apply_left (t := S24x1x27648x2) (s₁ := S24x1x27648x1) (s₂ := S24x1x27648x1) 3 _ _ _ _ rfl (ix4 r 0 ⟨col.val / 2, hc⟩ 0) (fun b => by
        match b with
        | ⟨0, _⟩ => rfl
        | ⟨1, _⟩ => rfl
        | ⟨2, _⟩ => rfl
        | ⟨3, _⟩ => simp [h])) ?_
    rw [val_main_v44_apply, val_main_v21_apply]
    refine Finset.sum_congr rfl fun d _ => ?_
    have i1 : lidx_main_v21 (idx_main_v44 (ix4 r 0 ⟨col.val / 2, hc⟩ 0)) d = ix3 r 0 d := by
      funext a; match a with
      | ⟨0, _⟩ => rfl
      | ⟨1, _⟩ => rfl
      | ⟨2, _⟩ => rfl
    have i2 : ridx_main_v21 (idx_main_v44 (ix4 r 0 ⟨col.val / 2, hc⟩ 0)) d = ix2 d ⟨col.val / 2, hc⟩ := by
      funext a; match a with
      | ⟨0, _⟩ => rfl
      | ⟨1, _⟩ => rfl
    rw [i1, i2, low_apply q z s d _ col (by simp; omega)]
  · refine Eq.trans (concatenate_pair_apply_right (t := S24x1x27648x2) (s₁ := S24x1x27648x1) (s₂ := S24x1x27648x1) 3 _ _ _ _ rfl rfl (ix4 r 0 ⟨col.val / 2, hc⟩ 0) (fun b hb => by
        match b, hb with
        | ⟨0, _⟩, _ => rfl
        | ⟨1, _⟩, _ => rfl
        | ⟨2, _⟩, _ => rfl
        | ⟨3, _⟩, hb => exact absurd rfl hb) (by simp [h])) ?_
    rw [val_main_v45_apply, val_main_v43_apply]
    refine Finset.sum_congr rfl fun d _ => ?_
    have i1 : lidx_main_v43 (idx_main_v45 (ix4 r 0 ⟨col.val / 2, hc⟩ 0)) d = ix3 r 0 d := by
      funext a; match a with
      | ⟨0, _⟩ => rfl
      | ⟨1, _⟩ => rfl
      | ⟨2, _⟩ => rfl
    have i2 : ridx_main_v43 (idx_main_v45 (ix4 r 0 ⟨col.val / 2, hc⟩ 0)) d = ix2 d ⟨col.val / 2, hc⟩ := by
      funext a; match a with
      | ⟨0, _⟩ => rfl
      | ⟨1, _⟩ => rfl
    rw [i1, i2, high_apply q z s d _ col (by simp; omega)]

end Cert.Awq

end
-- ==== Proof.Body.lean ====
/-
  What one grid point's body computes, as functions of the values it loads — the same vector operations the program
  prints, written once for every column chunk and every group: the two fields of a byte matrix interleaved, the scale
  and zero-point rows spread over a group's rows, one group's product added to the accumulator, the forty groups in
  order, and a chunk of the accumulator with its two halves interleaved into the result's lanes.
-/
module

public import proofs.«01_k».proof.Proof.Gen.KernelIdeal.Value

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

/-- The two fields of each byte of a `[128, 256]` block, row `2k + h` holding field `h` of row `k`. -/
def fieldRows (q : Vec F S128x256 .i8) : FVec F S256x256 .bf16 :=
  sitofp .bf16 (shapeCast S256x256
    (concatenate S128x2x256 1
      [⟨S128x1x256, shapeCast S128x1x256 (andi (extui 32 q natLt_8_32) (broadcast S128x256 15#32)) shapeCasts_S128x256_S128x1x256⟩,
       ⟨S128x1x256, shapeCast S128x1x256 (shrsi (extui 32 q natLt_8_32) (broadcast S128x256 4#32)) shapeCasts_S128x256_S128x1x256⟩]
      concatenates_S128x1x256_S128x1x256_S128x2x256_d1) shapeCasts_S128x2x256_S256x256)

/-- Two rows repeated down `256` rows: even rows the first, odd rows the second. -/
def spread (pair : FVec F S2x256 .bf16) : FVec F S256x256 .bf16 :=
  shapeCast S256x256 (broadcastTo S128x2x256
    (shapeCast S1x2x256 (shapeCast S1x2x256 pair shapeCasts_S2x256_S1x2x256) shapeCasts_S1x2x256_S1x2x256)
    broadcasts_S1x2x256_S128x2x256) shapeCasts_S128x2x256_S256x256

/-- A group's two scale rows, spread. -/
def scaleRows (s : Vec F S1x1x2x256 .bf16) : FVec F S256x256 .bf16 :=
  spread (interleaveRows S2x256
    (shapeCast S1x256 (shapeCast S1x1x256 (rowsOfParity 0 S1x1x1x256 s bitcasts_S1x1x2x256_w16_S1x1x1x256_w32)
      shapeCasts_S1x1x1x256_S1x1x256) shapeCasts_S1x1x256_S1x256)
    (shapeCast S1x256 (shapeCast S1x1x256 (rowsOfParity 1 S1x1x1x256 s bitcasts_S1x1x2x256_w16_S1x1x1x256_w32)
      shapeCasts_S1x1x1x256_S1x1x256) shapeCasts_S1x1x256_S1x256)
    bitcasts_S2x256_w16_S1x256_w32)

/-- A group's two zero-point rows, spread. -/
def zeroRows (z : Vec F S1x2x256 .bf16) : FVec F S256x256 .bf16 :=
  spread (interleaveRows S2x256
    (shapeCast S1x256 (rowsOfParity 0 S1x1x256 z bitcasts_S1x2x256_w16_S1x1x256_w32) shapeCasts_S1x1x256_S1x256)
    (shapeCast S1x256 (rowsOfParity 1 S1x1x256 z bitcasts_S1x2x256_w16_S1x1x256_w32) shapeCasts_S1x1x256_S1x256)
    bitcasts_S2x256_w16_S1x256_w32)

/-- A group's dequantized weights: (fields − zero points) · scales. -/
def groupWeights (q : Vec F S128x256 .i8) (s : Vec F S1x1x2x256 .bf16) (z : Vec F S1x2x256 .bf16) :
    FVec F S256x256 .bf16 :=
  mulf (subf (fieldRows q) (zeroRows z)) (scaleRows s)

/-- One group added to the accumulator. -/
def step (acc : FVec F S48x256 .f32) (x : Vec F S1x48x256 .bf16) (q : Vec F S128x256 .i8) (s : Vec F S1x1x2x256 .bf16)
    (z : Vec F S1x2x256 .bf16) : FVec F S48x256 .f32 :=
  addf acc (matmul dot_S48x256_S256x256_S48x256_1_0_0_1_n_n none (shapeCast S48x256 x shapeCasts_S1x48x256_S48x256)
    (groupWeights q s z) (constant S48x256 .f32 0x00000000#32))

/-- The accumulator's start. -/
def acc0 : FVec F S48x256 .f32 := broadcast S48x256 (Scalar.ofBits .f32 0x00000000#32)

/-- The accumulator after the first `k` of the forty groups, from each group's four loads. -/
def chain (X : Fin 40 → Vec F S1x48x256 .bf16) (Q : Fin 40 → Vec F S128x256 .i8) (S : Fin 40 → Vec F S1x1x2x256 .bf16)
    (Z : Fin 40 → Vec F S1x2x256 .bf16) : (k : ℕ) → k ≤ 40 → FVec F S48x256 .f32
  | 0, _ => acc0
  | k + 1, h => step (chain X Q S Z k (Nat.le_of_succ_le h)) (X ⟨k, h⟩) (Q ⟨k, h⟩) (S ⟨k, h⟩) (Z ⟨k, h⟩)

/-- `[24, 128]` lanes taken at the lane numbers `idx` (a negative one counted from the end). -/
def lanes24 (v : FVec F S24x128 .f32) (idx : IVec S24x128 32) : FVec F S24x128 .f32 :=
  dynamicGather 1 v (shapeCast S24x128 (shapeCast S24x128x1
    (select (cmpi .slt idx (broadcast S24x128 0#32)) (addi idx (broadcast S24x128 128#32)) idx)
    shapeCasts_S24x128_S24x128x1) shapeCasts_S24x128x1_S24x128)

/-- Half the lane number, from lane number `b` on. -/
def halfLane (b : BitVec 32) : IVec S24x128 32 :=
  addi (shrsi (iota .tc S24x128 32 [1] iota_S24x128_d1_w32) (broadcast S24x128 1#32)) (broadcast S24x128 b)

/-- The even lanes. -/
def evenLane : IVec S24x128 1 :=
  cmpi .eq (andi (iota .tc S24x128 32 [1] iota_S24x128_d1_w32) (broadcast S24x128 1#32)) (broadcast S24x128 0#32)

/-- Rounded to the result's format and widened again. -/
def rounded (v : FVec F S24x128 .f32) : FVec F S24x128 .f32 := extf .f32 (truncf .bf16 v bitsLt_bf16_f32) bitsLt_bf16_f32

/-- 128 result lanes: even lanes from `lo`, odd lanes from `hi`, starting at lane `b` of them. -/
def mixLanes (lo hi : FVec F S24x128 .f32) (b : BitVec 32) : FVec F S24x128 .f32 :=
  select evenLane (lanes24 lo (halfLane b)) (lanes24 hi (halfLane b))

/-- 256 result lanes from the two halves of 128 accumulator lanes. -/
def mixed (lo hi : FVec F S24x128 .f32) : FVec F S24x256 .bf16 :=
  truncf .bf16 (concatenate S24x256 1 [⟨S24x128, mixLanes (rounded lo) (rounded hi) 0#32⟩,
    ⟨S24x128, mixLanes (rounded lo) (rounded hi) 64#32⟩] concatenates_S24x128_S24x128_S24x256_d1) bitsLt_bf16_f32

/-- The result lanes of the accumulator's lanes `0 … 127`. -/
def outLeft (acc : FVec F S48x256 .f32) : FVec F S24x256 .bf16 :=
  mixed (extractStridedSlice S24x128 ![0, 0] acc slices_S48x256_o0_0_S24x128)
    (extractStridedSlice S24x128 ![24, 0] acc slices_S48x256_o24_0_S24x128)

/-- The result lanes of the accumulator's lanes `128 … 255`. -/
def outRight (acc : FVec F S48x256 .f32) : FVec F S24x256 .bf16 :=
  mixed (extractStridedSlice S24x128 ![0, 128] acc slices_S48x256_o0_128_S24x128)
    (extractStridedSlice S24x128 ![24, 128] acc slices_S48x256_o24_128_S24x128)

/-! ## The two scratch buffers the body fills first -/

/-- `[40, 128]` lanes taken at the lane numbers `idx` (a negative one counted from the end). -/
def lanes40 (v : FVec F S40x128 .f32) (idx : IVec S40x128 32) : FVec F S40x128 .f32 :=
  dynamicGather 1 v (shapeCast S40x128 (shapeCast S40x128x1
    (select (cmpi .slt idx (broadcast S40x128 0#32)) (addi idx (broadcast S40x128 128#32)) idx)
    shapeCasts_S40x128_S40x128x1) shapeCasts_S40x128x1_S40x128)

/-- Twice the lane number, modulo 128. -/
def twiceLane : IVec S40x128 32 :=
  andi (muli (broadcast S40x128 2#32) (iota .tc S40x128 32 [1] iota_S40x128_d1_w32)) (broadcast S40x128 127#32)

/-- The lanes below 64. -/
def firstLanes : IVec S40x128 1 :=
  cmpi .slt (iota .tc S40x128 32 [1] iota_S40x128_d1_w32) (broadcast S40x128 64#32)

theorem slices_chunk : ∀ k : Fin 8, S20x2048.Slices ![0, 256 * k.val] S20x256 := by decide

/-- Half `o` (128 lanes from lane `o`) of the scales' column chunk `k`, all forty rows. -/
def scaleHalf (s : Vec F S40x2048 .bf16) (k : Fin 8) (o : ℕ) (ho : S20x256.Slices ![0, o] S20x128) : FVec F S40x128 .f32 :=
  extf .f32 (interleaveRows S40x128
    (extractStridedSlice S20x128 ![0, o] (extractStridedSlice S20x256 ![0, 256 * k.val]
      (rowsOfParity 0 S20x2048 s bitcasts_S40x2048_w16_S20x2048_w32) (slices_chunk k)) ho)
    (extractStridedSlice S20x128 ![0, o] (extractStridedSlice S20x256 ![0, 256 * k.val]
      (rowsOfParity 1 S20x2048 s bitcasts_S40x2048_w16_S20x2048_w32) (slices_chunk k)) ho)
    bitcasts_S40x128_w16_S20x128_w32) bitsLt_bf16_f32

/-- 128 lanes of the chunk, taken at the lane numbers `idx` from its first half on the lanes below 64 and from its
    second half on the others. -/
def taken (s : Vec F S40x2048 .bf16) (k : Fin 8) (idx : IVec S40x128 32) : FVec F S40x128 .bf16 :=
  truncf .bf16 (select firstLanes (lanes40 (scaleHalf s k 0 slices_S20x256_o0_0_S20x128) idx)
    (lanes40 (scaleHalf s k 128 slices_S20x256_o0_128_S20x128) idx)) bitsLt_bf16_f32

/-- The scale scratch's block for the rows of parity `p` and the column chunk `k`: the even columns beside the odd. -/
def scaleBlock (s : Vec F S40x2048 .bf16) (p : Fin 2) (k : Fin 8) : Vec F S1x20x2x128 .bf16 :=
  interleaveRows S1x20x2x128
    (shapeCast S1x20x1x128 (shapeCast S1x20x128
      (rowsOfParity p S20x128 (taken s k twiceLane) bitcasts_S40x128_w16_S20x128_w32)
      shapeCasts_S20x128_S1x20x128) shapeCasts_S1x20x128_S1x20x1x128)
    (shapeCast S1x20x1x128 (shapeCast S1x20x128
      (rowsOfParity p S20x128 (taken s k (addi twiceLane (broadcast S40x128 1#32))) bitcasts_S40x128_w16_S20x128_w32)
      shapeCasts_S20x128_S1x20x128) shapeCasts_S1x20x128_S1x20x1x128)
    bitcasts_S1x20x2x128_w16_S1x20x1x128_w32

/-- The zero-point scratch: the two fields of each byte, side by side. -/
def zeroBlock (z : Vec F S40x1024 .i8) : Vec F S40x2x1024 .bf16 :=
  k0_pay119 z

end Cert.KernelIdeal.Body

end
-- ==== Proof.Found.lean ====
/-
  The frame's run names every value the body binds; here its eight stores are read as the functions of `Body` over the
  loads: for each column chunk the forty groups' chain, then the two interleaved halves.
-/
module

public import proofs.«01_k».proof.Proof.Body

@[expose] public section

set_option maxRecDepth 65536
set_option maxHeartbeats 4000000

noncomputable section

namespace Cert.KernelIdeal.Body

open Cert.KernelIdeal Cert.KernelIdeal.Gen Idealize.ShloMosaic Idealize.ShloMosaic.TcCoe Idealize.SL.Sem

variable {F : FTy → Type} [FloatOps F]
variable (c : Dev nD)
  (a1 : Memref sig .tc .vmem S40x48x256 .bf16) (h1 : a1.IsWhole)
  (a2 : Memref sig .tc .vmem S5120x1024 .i8) (h2 : a2.IsWhole)
  (a3 : Memref sig .tc .vmem S40x1024 .i8) (h3 : a3.IsWhole)
  (a4 : Memref sig .tc .vmem S40x2048 .bf16) (h4 : a4.IsWhole)
  (a6 : Memref sig .tc .vmem S2x20x2x1024 .bf16) (a7 : Memref sig .tc .vmem S40x2x1024 .bf16)
  (x0 : Vec F S40x48x256 .bf16) (x1 : Vec F S5120x1024 .i8) (x2 : Vec F S40x1024 .i8) (x3 : Vec F S40x2048 .bf16)

theorem inbX (g : Fin 40) : ∀ a, (![g.val, 0, 0] : Fin 3 → ℕ) a + S1x48x256.size a ≤ S40x48x256.size a := by
  have := g.isLt
  intro a; fin_cases a <;> simp <;> omega

theorem inbQ (n : Fin 4) (g : Fin 40) :
    ∀ a, (![128 * g.val, 256 * n.val] : Fin 2 → ℕ) a + S128x256.size a ≤ S5120x1024.size a := by
  have := g.isLt; have := n.isLt
  intro a; fin_cases a <;> simp <;> omega

theorem inbS (n : Fin 4) (g : Fin 40) :
    ∀ a, (![g.val % 2, g.val / 2, 0, 256 * n.val] : Fin 4 → ℕ) a + S1x1x2x256.size a ≤ S2x20x2x1024.size a := by
  have := g.isLt; have := n.isLt
  intro a; fin_cases a <;> simp <;> omega

theorem inbZ (n : Fin 4) (g : Fin 40) :
    ∀ a, (![g.val, 0, 256 * n.val] : Fin 3 → ℕ) a + S1x2x256.size a ≤ S40x2x1024.size a := by
  have := g.isLt; have := n.isLt
  intro a; fin_cases a <;> simp <;> omega

/-- Where group `g`'s activations lie. -/
abbrev rectX (g : Fin 40) : Rect S40x48x256 := Rect.unit ![g.val, 0, 0] S1x48x256.size (inbX g)

/-- Where group `g`'s packed weights of column chunk `n` lie. -/
abbrev rectQ (n : Fin 4) (g : Fin 40) : Rect S5120x1024 := Rect.unit ![128 * g.val, 256 * n.val] S128x256.size (inbQ n g)

/-- Where group `g`'s scale rows of column chunk `n` lie. -/
abbrev rectS (n : Fin 4) (g : Fin 40) : Rect S2x20x2x1024 :=
  Rect.unit ![g.val % 2, g.val / 2, 0, 256 * n.val] S1x1x2x256.size (inbS n g)

/-- Where group `g`'s zero-point rows of column chunk `n` lie. -/
abbrev rectZ (n : Fin 4) (g : Fin 40) : Rect S40x2x1024 := Rect.unit ![g.val, 0, 256 * n.val] S1x2x256.size (inbZ n g)

/-- Group `g`'s activations, as the body loads them. -/
def loadX (g : Fin 40) : Vec F S1x48x256 .bf16 :=
  View.readAt (Elt F) a1.view (rectX g).toLoadRect (h1.unread x0)

/-- Group `g`'s packed weights of column chunk `n`. -/
def loadQ (n : Fin 4) (g : Fin 40) : Vec F S128x256 .i8 :=
  View.readAt (Elt F) a2.view (rectQ n g).toLoadRect (h2.unread x1)

/-- Group `g`'s scale rows of column chunk `n`, read back from the scratch the body filled. -/
def loadS (n : Fin 4) (g : Fin 40) : Vec F S1x1x2x256 .bf16 :=
  a6.view.readCov (kernelRun0_A.sl.HS0_16 c a4 h4 x3)
    (rectS n g).toLoadRect

/-- Group `g`'s zero-point rows of column chunk `n`, read back from the scratch the body filled. -/
def loadZ (n : Fin 4) (g : Fin 40) : Vec F S1x2x256 .bf16 :=
  a7.view.readCov (kernelRun0_A.sl.HS1_1 c a3 h3 x2)
    (rectZ n g).toLoadRect

/-- Column chunk `n`'s accumulator after all forty groups. -/
def acc (n : Fin 4) : FVec F S48x256 .f32 :=
  chain (loadX a1 h1 x0) (loadQ a2 h2 x1 n) (loadS c a4 h4 a6 x3 n) (loadZ c a3 h3 a7 x2 n) 40 le_rfl

/-- The body's eight stores, newest first: for each column chunk its two halves. -/
theorem stores (i : grid0.Coords) (a5 : Memref sig .tc .vmem S24x2048 .bf16) (h5 : a5.IsWhole) (h6 : a6.IsWhole)
    (h7 : a7.IsWhole) :
    (kernelRun0_A c i a1 h1 a2 h2 a3 h3 a4 h4 a5 h5 a6 h6 a7 h7 x0 x1 x2 x3).1
      = [⟨Rect.unit ![0, 1792] S24x256.size inb_S24x2048_S24x256_0_1792, outRight (acc c a1 h1 a2 h2 a3 h3 a4 h4 a6 a7 x0 x1 x2 x3 3)⟩,
         ⟨Rect.unit ![0, 1536] S24x256.size inb_S24x2048_S24x256_0_1536, outLeft (acc c a1 h1 a2 h2 a3 h3 a4 h4 a6 a7 x0 x1 x2 x3 3)⟩,
         ⟨Rect.unit ![0, 1280] S24x256.size inb_S24x2048_S24x256_0_1280, outRight (acc c a1 h1 a2 h2 a3 h3 a4 h4 a6 a7 x0 x1 x2 x3 2)⟩,
         ⟨Rect.unit ![0, 1024] S24x256.size inb_S24x2048_S24x256_0_1024, outLeft (acc c a1 h1 a2 h2 a3 h3 a4 h4 a6 a7 x0 x1 x2 x3 2)⟩,
         ⟨Rect.unit ![0, 768] S24x256.size inb_S24x2048_S24x256_0_768, outRight (acc c a1 h1 a2 h2 a3 h3 a4 h4 a6 a7 x0 x1 x2 x3 1)⟩,
         ⟨Rect.unit ![0, 512] S24x256.size inb_S24x2048_S24x256_0_512, outLeft (acc c a1 h1 a2 h2 a3 h3 a4 h4 a6 a7 x0 x1 x2 x3 1)⟩,
         ⟨Rect.unit ![0, 256] S24x256.size inb_S24x2048_S24x256_0_256, outRight (acc c a1 h1 a2 h2 a3 h3 a4 h4 a6 a7 x0 x1 x2 x3 0)⟩,
         ⟨Rect.unit ![0, 0] S24x256.size inb_S24x2048_S24x256_0_0, outLeft (acc c a1 h1 a2 h2 a3 h3 a4 h4 a6 a7 x0 x1 x2 x3 0)⟩] := rfl

/-- The scale block of the point, as the body loads it. -/
def loadScales : Vec F S40x2048 .bf16 :=
  View.readAt (Elt F) a4.view (Rect.unit ![0, 0] S40x2048.size inb_S40x2048_S40x2048_0_0).toLoadRect (h4.unread x3)

theorem inbBlock (p : Fin 2) (k : Fin 8) :
    ∀ a, (![p.val, 0, 0, 128 * k.val] : Fin 4 → ℕ) a + S1x20x2x128.size a ≤ S2x20x2x1024.size a := by
  have := p.isLt; have := k.isLt
  intro a; fin_cases a <;> simp <;> omega

/-- One store into the scale scratch. -/
def scaleStore (p : Fin 2) (k : Fin 8) : View.Piece (Elt F) S2x20x2x1024 .bf16 :=
  ⟨Rect.unit ![p.val, 0, 0, 128 * k.val] S1x20x2x128.size (inbBlock p k), scaleBlock (loadScales a4 h4 x3) p k⟩

/-- The sixteen stores into the scale scratch, newest first. -/
theorem scaleStores :
    kernelRun0_A.sl.HS0_16 c a4 h4 x3
      = [scaleStore a4 h4 x3 1 7, scaleStore a4 h4 x3 0 7, scaleStore a4 h4 x3 1 6, scaleStore a4 h4 x3 0 6,
         scaleStore a4 h4 x3 1 5, scaleStore a4 h4 x3 0 5, scaleStore a4 h4 x3 1 4, scaleStore a4 h4 x3 0 4,
         scaleStore a4 h4 x3 1 3, scaleStore a4 h4 x3 0 3, scaleStore a4 h4 x3 1 2, scaleStore a4 h4 x3 0 2,
         scaleStore a4 h4 x3 1 1, scaleStore a4 h4 x3 0 1, scaleStore a4 h4 x3 1 0, scaleStore a4 h4 x3 0 0] := rfl

end Cert.KernelIdeal.Body

end
-- ==== Proof.BodyValue.lean ====
/-
  The body's functions, read at an element, over the extended reals.
-/
module

public import proofs.«01_k».proof.Proof.Body
public import proofs.«01_k».proof.Proof.Spec

@[expose] public section

set_option maxRecDepth 16384

noncomputable section

namespace Cert.KernelIdeal.Body

open Cert.KernelIdeal Cert.KernelIdeal.Gen Idealize.ShloMosaic Idealize.ShloMosaic.TcCoe Idealize.SL.Sem Cert.Awq

/-! ## One group's weights and product -/

/-- Row `2k + h` of a group's fields: field `h` of the group's row `k`. -/
theorem fieldRows_apply (q : Vec Ideal S128x256 .i8) (r c : Fin 256) :
    fieldRows (F := Ideal) q (ix2 r c) = field (r.val % 2) (q (ix2 ⟨r.val / 2, by omega⟩ c)) := by
  unfold fieldRows
  pointwise
  rcases Nat.mod_two_eq_zero_or_one r.val with h | h
  · rw [dif_pos (by omega)]; exact (kernel_low _).trans (congrArg (field · _) h.symm)
  · rw [dif_neg (by omega)]; exact (kernel_high _).trans (congrArg (field · _) h.symm)

/-- Row `2k + h` of two rows spread: row `h`. -/
theorem spread_apply (v : FVec Ideal S2x256 .bf16) (r c : Fin 256) :
    spread (F := Ideal) v (ix2 r c) = v (ix2 ⟨r.val % 2, by omega⟩ c) := by
  unfold spread
  pointwise

/-- A group's scale rows at row `2k + h`: the loaded row `h`. -/
theorem scaleRows_apply (s : Vec Ideal S1x1x2x256 .bf16) (r c : Fin 256) :
    scaleRows (F := Ideal) s (ix2 r c) = s (ix4 0 0 ⟨r.val % 2, by omega⟩ c) := by
  unfold scaleRows
  rw [spread_apply]
  pointwise
  rcases Nat.mod_two_eq_zero_or_one r.val with h | h
  · rw [if_pos (by omega)]; simp only [h]; rfl
  · rw [if_neg (by omega)]; simp only [h]; rfl

/-- A group's zero-point rows at row `2k + h`: the loaded row `h`. -/
theorem zeroRows_apply (s : Vec Ideal S1x2x256 .bf16) (r c : Fin 256) :
    zeroRows (F := Ideal) s (ix2 r c) = s (ix3 0 ⟨r.val % 2, by omega⟩ c) := by
  unfold zeroRows
  rw [spread_apply]
  pointwise
  rcases Nat.mod_two_eq_zero_or_one r.val with h | h
  · rw [if_pos (by omega)]; simp only [h]; rfl
  · rw [if_neg (by omega)]; simp only [h]; rfl

/-- One group added to an element of the accumulator. -/
theorem step_apply (acc : FVec Ideal S48x256 .f32) (x : Vec Ideal S1x48x256 .bf16) (q : Vec Ideal S128x256 .i8)
    (s : Vec Ideal S1x1x2x256 .bf16) (z : Vec Ideal S1x2x256 .bf16) (r : Fin 48) (c : Fin 256) :
    step (F := Ideal) acc x q s z (ix2 r c)
      = acc (ix2 r c) + ∑ j : Fin 256, x (ix3 0 r j)
          * ((field (j.val % 2) (q (ix2 ⟨j.val / 2, by omega⟩ c)) - z (ix3 0 ⟨j.val % 2, by omega⟩ c))
              * s (ix4 0 0 ⟨j.val % 2, by omega⟩ c)) := by
  unfold step groupWeights
  pointwise
  simp only [fieldRows_apply, zeroRows_apply, scaleRows_apply]

/-- The accumulator after the first `k` groups, at an element. -/
theorem chain_apply (X : Fin 40 → Vec Ideal S1x48x256 .bf16) (Q : Fin 40 → Vec Ideal S128x256 .i8)
    (S : Fin 40 → Vec Ideal S1x1x2x256 .bf16) (Z : Fin 40 → Vec Ideal S1x2x256 .bf16) (T : Fin 40 → EReal)
    (r : Fin 48) (c : Fin 256)
    (hT : ∀ g, ∑ j : Fin 256, X g (ix3 0 r j)
          * ((field (j.val % 2) (Q g (ix2 ⟨j.val / 2, by omega⟩ c)) - Z g (ix3 0 ⟨j.val % 2, by omega⟩ c))
              * S g (ix4 0 0 ⟨j.val % 2, by omega⟩ c)) = T g) :
    ∀ (k : ℕ) (h : k ≤ 40), chain (F := Ideal) X Q S Z k h (ix2 r c) = ∑ g : Fin k, T (g.castLE h)
  | 0, _ => by
    unfold chain acc0
    pointwise
    simp
  | k + 1, h => by
    rw [chain, step_apply, chain_apply X Q S Z T r c hT k, hT, Fin.sum_univ_castSucc]
    rfl

/-! ## The result's lanes -/

theorem evenLane_nat : ∀ l : Fin 128, IntOp.cmpi .eq (IntOp.andi (BitVec.ofNat 32 l.val) 1#32) 0#32
    = if l.val % 2 = 0 then 1#1 else 0#1 := by decide +kernel

theorem evenLane_apply (r : Fin 24) (l : Fin 128) : evenLane (ix2 r l) = if l.val % 2 = 0 then 1#1 else 0#1 := by
  unfold evenLane
  pointwise
  exact evenLane_nat l

theorem halfLane_nat : ∀ l : Fin 128, IntOp.addi (IntOp.shrsi .vector (BitVec.ofNat 32 l.val) 1#32) 0#32
      = BitVec.ofNat 32 (l.val / 2)
    ∧ IntOp.addi (IntOp.shrsi .vector (BitVec.ofNat 32 l.val) 1#32) 64#32 = BitVec.ofNat 32 (64 + l.val / 2) := by
  decide +kernel

theorem halfLane_apply_zero (r : Fin 24) (l : Fin 128) : halfLane 0#32 (ix2 r l) = BitVec.ofNat 32 (l.val / 2) := by
  unfold halfLane
  pointwise
  exact (halfLane_nat l).1

theorem halfLane_apply_half (r : Fin 24) (l : Fin 128) :
    halfLane 64#32 (ix2 r l) = BitVec.ofNat 32 (64 + l.val / 2) := by
  unfold halfLane
  pointwise
  exact (halfLane_nat l).2

theorem wrap_nat : ∀ k : Fin 128, (Scalar.select (IntOp.cmpi .slt (BitVec.ofNat 32 k.val) 0#32)
    (IntOp.addi (BitVec.ofNat 32 k.val) 128#32) (BitVec.ofNat 32 k.val)).toNat % 128 = k.val := by
  decide +kernel

/-- A lane gather at a lane number that is in range. -/
theorem lanes24_apply (v : FVec Ideal S24x128 .f32) (idx : IVec S24x128 32) (r : Fin 24) (l k : Fin 128)
    (h : idx (ix2 r l) = BitVec.ofNat 32 k.val) : lanes24 (F := Ideal) v idx (ix2 r l) = v (ix2 r k) := by
  unfold lanes24
  pointwise
  simp only [h, wrap_nat]

/-- Result lanes from two halves: even lanes from `lo`, odd lanes from `hi`. -/
theorem mixed_apply (lo hi : FVec Ideal S24x128 .f32) (r : Fin 24) (l : Fin 256) (k : Fin 128) (hk : k.val = l.val / 2) :
    mixed (F := Ideal) lo hi (ix2 r l) = if l.val % 2 = 0 then lo (ix2 r k) else hi (ix2 r k) := by
  unfold mixed mixLanes rounded
  pointwise
  by_cases hl : l.val < 128
  · rw [dif_pos hl, evenLane_apply,
      lanes24_apply _ _ _ _ k (by rw [halfLane_apply_zero, hk]),
      lanes24_apply _ _ _ _ k (by rw [halfLane_apply_zero, hk])]
    pointwise
    rcases Nat.mod_two_eq_zero_or_one l.val with h | h
    · simp [h, Scalar.select]
    · simp [h, Scalar.select]
  · have e : 64 + (l.val - 128) / 2 = k.val := by omega
    rw [dif_neg hl, evenLane_apply,
      lanes24_apply _ _ _ _ k (by rw [halfLane_apply_half]; simp only [e]),
      lanes24_apply _ _ _ _ k (by rw [halfLane_apply_half]; simp only [e])]
    pointwise
    rcases Nat.mod_two_eq_zero_or_one l.val with h | h
    · have h' : (l.val - 128) % 2 = 0 := by omega
      simp [h, h', Scalar.select]
    · have h' : (l.val - 128) % 2 = 1 := by omega
      simp [h, h', Scalar.select]

theorem outLeft_apply (a : FVec Ideal S48x256 .f32) (r : Fin 24) (l : Fin 256) :
    outLeft (F := Ideal) a (ix2 r l) = a (ix2 ⟨(l.val % 2) * 24 + r.val, by omega⟩ ⟨l.val / 2, by omega⟩) := by
  unfold outLeft
  rw [mixed_apply _ _ r l ⟨l.val / 2, by omega⟩ rfl]
  pointwise
  rcases Nat.mod_two_eq_zero_or_one l.val with h | h <;> simp [h]

theorem outRight_apply (a : FVec Ideal S48x256 .f32) (r : Fin 24) (l : Fin 256) :
    outRight (F := Ideal) a (ix2 r l) = a (ix2 ⟨(l.val % 2) * 24 + r.val, by omega⟩ ⟨128 + l.val / 2, by omega⟩) := by
  unfold outRight
  rw [mixed_apply _ _ r l ⟨l.val / 2, by omega⟩ rfl]
  pointwise
  rcases Nat.mod_two_eq_zero_or_one l.val with h | h <;> simp [h]

end Cert.KernelIdeal.Body

end
-- ==== Proof.ScratchValue.lean ====
/-
  What the body puts into its two scratch buffers, read at an element, over the extended reals: the scales with the even
  and the odd columns apart and the rows of either parity apart; the zero points' two fields apart.
-/
module

public import proofs.«01_k».proof.Proof.BodyValue

@[expose] public section

set_option maxRecDepth 16384

noncomputable section

namespace Cert.KernelIdeal.Body

open Cert.KernelIdeal Cert.KernelIdeal.Gen Idealize.ShloMosaic Idealize.ShloMosaic.TcCoe Idealize.SL.Sem Cert.Awq

theorem lanes40_apply (v : FVec Ideal S40x128 .f32) (idx : IVec S40x128 32) (r : Fin 40) (l k : Fin 128)
    (h : idx (ix2 r l) = BitVec.ofNat 32 k.val) : lanes40 (F := Ideal) v idx (ix2 r l) = v (ix2 r k) := by
  unfold lanes40
  pointwise
  simp only [h, wrap_nat]

theorem twiceLane_nat : ∀ l : Fin 128,
    IntOp.andi (IntOp.muli 2#32 (BitVec.ofNat 32 l.val)) 127#32 = BitVec.ofNat 32 (2 * l.val % 128)
    ∧ IntOp.addi (IntOp.andi (IntOp.muli 2#32 (BitVec.ofNat 32 l.val)) 127#32) 1#32
        = BitVec.ofNat 32 (2 * l.val % 128 + 1) := by
  decide +kernel

theorem twiceLane_apply (r : Fin 40) (l : Fin 128) : twiceLane (ix2 r l) = BitVec.ofNat 32 (2 * l.val % 128) := by
  unfold twiceLane
  pointwise
  exact (twiceLane_nat l).1

theorem twiceLane_succ_apply (r : Fin 40) (l : Fin 128) :
    addi twiceLane (broadcast S40x128 1#32) (ix2 r l) = BitVec.ofNat 32 (2 * l.val % 128 + 1) := by
  unfold twiceLane
  pointwise
  exact (twiceLane_nat l).2

theorem firstLanes_nat : ∀ l : Fin 128, IntOp.cmpi .slt (BitVec.ofNat 32 l.val) 64#32
    = if l.val < 64 then 1#1 else 0#1 := by decide +kernel

theorem firstLanes_apply (r : Fin 40) (l : Fin 128) : firstLanes (ix2 r l) = if l.val < 64 then 1#1 else 0#1 := by
  unfold firstLanes
  pointwise
  exact firstLanes_nat l

/-- A half of the scales' column chunk `k`, at an element. -/
theorem scaleHalf_apply (s : Vec Ideal S40x2048 .bf16) (k : Fin 8) (o : ℕ) (ho : S20x256.Slices ![0, o] S20x128)
    (r : Fin 40) (l : Fin 128) (c : Fin 2048) (hc : c.val = 256 * k.val + (o + l.val)) :
    scaleHalf (F := Ideal) s k o ho (ix2 r l) = s (ix2 r c) := by
  unfold scaleHalf
  pointwise
  have e : (⟨256 * k.val + (o + l.val), by omega⟩ : Fin 2048) = c := Fin.ext hc.symm
  rw [e]
  rcases Nat.mod_two_eq_zero_or_one r.val with h | h
  · rw [if_pos h, show (⟨2 * (r.val / 2), by omega⟩ : Fin 40) = r from Fin.ext (by simp; omega)]
  · rw [if_neg (by omega), show (⟨2 * (r.val / 2) + 1, by omega⟩ : Fin 40) = r from Fin.ext (by simp; omega)]

/-- The lanes taken at twice their number (or one more): the chunk's even (odd) columns. -/
theorem taken_apply (s : Vec Ideal S40x2048 .bf16) (k : Fin 8) (idx : IVec S40x128 32) (r : Fin 40) (l : Fin 128)
    (h : Fin 2) (hi : idx (ix2 r l) = BitVec.ofNat 32 (2 * l.val % 128 + h.val)) (c : Fin 2048)
    (hc : c.val = 256 * k.val + 2 * l.val + h.val) :
    taken (F := Ideal) s k idx (ix2 r l) = s (ix2 r c) := by
  unfold taken
  pointwise
  have hm : 2 * l.val % 128 + h.val < 128 := by omega
  rw [firstLanes_apply, lanes40_apply _ idx r l ⟨2 * l.val % 128 + h.val, hm⟩ hi,
    lanes40_apply _ idx r l ⟨2 * l.val % 128 + h.val, hm⟩ hi]
  by_cases hl : l.val < 64
  · rw [if_pos hl, scaleHalf_apply s k 0 _ r _ c (by simp; omega)]
    rfl
  · rw [if_neg hl, scaleHalf_apply s k 128 _ r _ c (by simp; omega)]
    rfl

/-- One stored block of scales at an element. -/
theorem scaleBlock_apply (s : Vec Ideal S40x2048 .bf16) (p : Fin 2) (k : Fin 8) (r : Fin 20) (h : Fin 2) (l : Fin 128)
    (g : Fin 40) (hg : g.val = 2 * r.val + p.val) (c : Fin 2048) (hc : c.val = 256 * k.val + 2 * l.val + h.val) :
    scaleBlock (F := Ideal) s p k (ix4 0 r h l) = s (ix2 g c) := by
  unfold scaleBlock
  pointwise
  have e : (⟨2 * r.val + p.val, by omega⟩ : Fin 40) = g := Fin.ext hg.symm
  rw [e]
  match h, hc with
  | 0, hc =>
    refine (if_pos (by decide)).trans ?_
    exact taken_apply s k twiceLane g l 0 (twiceLane_apply g l) c hc
  | 1, hc =>
    refine (if_neg (by decide)).trans ?_
    exact taken_apply s k _ g l 1 (twiceLane_succ_apply g l) c hc

/-- The stored zero points at an element: field `h` of the byte. -/
theorem zeroBlock_apply (z : Vec Ideal S40x1024 .i8) (g : Fin 40) (h : Fin 2) (c : Fin 1024) :
    zeroBlock (F := Ideal) z (ix3 g h c) = field h.val (z (ix2 g c)) := by
  unfold zeroBlock k0_pay119
  pointwise
  match h with
  | 0 =>
    refine (if_pos (by decide)).trans ?_
    rw [dif_pos (by omega)]
    exact kernel_low _
  | 1 =>
    refine (if_neg (by decide)).trans ?_
    rw [dif_neg (by omega)]
    exact kernel_high _

end Cert.KernelIdeal.Body

end
-- ==== Proof.LoadValue.lean ====
/-
  What each load of the body reads, at an element: its window's block, or — read back from a scratch — the window's block
  rearranged.
-/
module

public import proofs.«01_k».proof.Proof.Found
public import proofs.«01_k».proof.Proof.ScratchValue

@[expose] public section

set_option maxRecDepth 16384

noncomputable section

namespace Cert.KernelIdeal.Body

open Cert.KernelIdeal Cert.KernelIdeal.Gen Idealize.ShloMosaic Idealize.ShloMosaic.TcCoe Idealize.SL.Sem Cert.Awq

variable (c : Dev nD)
  (a1 : Memref sig .tc .vmem S40x48x256 .bf16) (h1 : a1.IsWhole)
  (a2 : Memref sig .tc .vmem S5120x1024 .i8) (h2 : a2.IsWhole)
  (a3 : Memref sig .tc .vmem S40x1024 .i8) (h3 : a3.IsWhole)
  (a4 : Memref sig .tc .vmem S40x2048 .bf16) (h4 : a4.IsWhole)
  (a6 : Memref sig .tc .vmem S2x20x2x1024 .bf16) (a7 : Memref sig .tc .vmem S40x2x1024 .bf16)
  (x0 : Vec Ideal S40x48x256 .bf16) (x1 : Vec Ideal S5120x1024 .i8) (x2 : Vec Ideal S40x1024 .i8)
  (x3 : Vec Ideal S40x2048 .bf16)

/-- Group `g`'s activations. -/
theorem loadX_apply (g : Fin 40) (r : Fin 48) (j : Fin 256) :
    loadX (F := Ideal) a1 h1 x0 g (ix3 0 r j) = x0 (ix3 g r j) := by
  unfold loadX
  rw [View.readAt_eq_ld, h1.read_unread]
  refine View.ld_unit_apply_of x0 _ _ _ _ _ fun a => ?_
  match a with
  | ⟨0, _⟩ => rfl
  | ⟨1, _⟩ => exact (Nat.zero_add _).symm
  | ⟨2, _⟩ => exact (Nat.zero_add _).symm

/-- Group `g`'s packed weights of column chunk `n`. -/
theorem loadQ_apply (n : Fin 4) (g : Fin 40) (k : Fin 128) (l : Fin 256) :
    loadQ (F := Ideal) a2 h2 x1 n g (ix2 k l)
      = x1 (ix2 ⟨128 * g.val + k.val, by omega⟩ ⟨256 * n.val + l.val, by omega⟩) := by
  unfold loadQ
  rw [View.readAt_eq_ld, h2.read_unread]
  refine View.ld_unit_apply_of x1 _ _ _ _ _ fun a => ?_
  match a with
  | ⟨0, _⟩ => rfl
  | ⟨1, _⟩ => rfl

/-- The scales' whole block. -/
theorem loadScales_eq : loadScales (F := Ideal) a4 h4 x3 = x3 := by
  unfold loadScales
  rw [View.readAt_eq_ld, h4.read_unread]
  funext y
  refine View.ld_unit_apply_of x3 _ _ _ _ _ fun a => ?_
  match a with
  | ⟨0, _⟩ => exact (Nat.zero_add _).symm
  | ⟨1, _⟩ => exact (Nat.zero_add _).symm

/-- The scale scratch once filled: `[p, r, h, l]` is the scale of group `2r + p` and column `2l + h`. -/
def scaleScratch : S2x20x2x1024.Idx → EReal := fun y =>
  x3 (ix2 ⟨2 * (y 1).val + (y 0).val, by have h0 : (y 0).val < 2 := (y 0).isLt; have h1 : (y 1).val < 20 := (y 1).isLt; omega⟩
    ⟨2 * (y 3).val + (y 2).val, by have h0 : (y 2).val < 2 := (y 2).isLt; have h1 : (y 3).val < 1024 := (y 3).isLt; omega⟩)

/-- One store's payload is the filled scratch on its rectangle. -/
theorem scaleStore_apply (p : Fin 2) (k : Fin 8) (x : S1x20x2x128.Idx) :
    scaleBlock (F := Ideal) (loadScales a4 h4 x3) p k x
      = scaleScratch x3 ((Rect.unit (s := S2x20x2x1024) ![p.val, 0, 0, 128 * k.val] S1x20x2x128.size (inbBlock p k)).emb x) := by
  obtain ⟨r, h, l, rfl⟩ : ∃ (r : Fin 20) (h : Fin 2) (l : Fin 128), x = ix4 0 r h l :=
    ⟨x 1, x 2, x 3, funext fun a => match a with
      | ⟨0, _⟩ => Fin.ext (by have h0 : (x 0).val < 1 := (x 0).isLt; show (x 0).val = 0; omega)
      | ⟨1, _⟩ => rfl
      | ⟨2, _⟩ => rfl
      | ⟨3, _⟩ => rfl⟩
  rw [loadScales_eq, scaleBlock_apply x3 p k r h l ⟨2 * r.val + p.val, by omega⟩ rfl
    ⟨256 * k.val + 2 * l.val + h.val, by omega⟩ rfl, scaleScratch]
  refine congrArg x3 (funext fun a => Fin.ext ?_)
  match a with
  | ⟨0, _⟩ => show 2 * r.val + p.val = 2 * (0 + 1 * r.val) + (p.val + 1 * 0); omega
  | ⟨1, _⟩ => show 256 * k.val + 2 * l.val + h.val = 2 * (128 * k.val + 1 * l.val) + (0 + 1 * h.val); omega

/-- The filled scratch. -/
theorem scaleScratch_eq (y : S2x20x2x1024.Idx) :
    View.canon (kernelRun0_A.sl.HS0_16 (F := Ideal) c a4 h4 x3) y = scaleScratch x3 y := by
  rw [scaleStores]
  refine View.canon_apply_of_pieces (Val := Elt Ideal) (e := .bf16) (S := S2x20x2x1024) (scaleScratch x3) _ ?_ y ?_
  swap
  · exact View.cover_of_tiledL (s := S2x20x2x1024) _ ![1, 20, 2, 128] (by rfl) y
  simp only [List.forall_mem_cons, List.not_mem_nil, false_imp_iff, implies_true, and_true]
  exact ⟨scaleStore_apply a4 h4 x3 1 7, scaleStore_apply a4 h4 x3 0 7, scaleStore_apply a4 h4 x3 1 6,
    scaleStore_apply a4 h4 x3 0 6, scaleStore_apply a4 h4 x3 1 5, scaleStore_apply a4 h4 x3 0 5,
    scaleStore_apply a4 h4 x3 1 4, scaleStore_apply a4 h4 x3 0 4, scaleStore_apply a4 h4 x3 1 3,
    scaleStore_apply a4 h4 x3 0 3, scaleStore_apply a4 h4 x3 1 2, scaleStore_apply a4 h4 x3 0 2,
    scaleStore_apply a4 h4 x3 1 1, scaleStore_apply a4 h4 x3 0 1, scaleStore_apply a4 h4 x3 1 0,
    scaleStore_apply a4 h4 x3 0 0⟩

/-- Group `g`'s scale rows of column chunk `n`. -/
theorem loadS_apply (n : Fin 4) (g : Fin 40) (h : Fin 2) (l : Fin 256) :
    loadS (F := Ideal) c a4 h4 a6 x3 n g (ix4 0 0 h l)
      = x3 (ix2 g ⟨2 * (256 * n.val + l.val) + h.val, by omega⟩) := by
  unfold loadS
  rw [View.readCov_eq_canon']
  refine (scaleScratch_eq c a4 h4 x3 _).trans ?_
  refine congrArg x3 (funext fun a => Fin.ext ?_)
  match a with
  | ⟨0, _⟩ => show 2 * (g.val / 2 + 1 * 0) + (g.val % 2 + 1 * 0) = g.val; omega
  | ⟨1, _⟩ =>
    show 2 * (256 * n.val + 1 * l.val) + (0 + 1 * h.val) = 2 * (256 * n.val + l.val) + h.val
    omega

/-- The zero points' whole block. -/
def loadZeros : Vec Ideal S40x1024 .i8 :=
  View.readAt (Elt Ideal) a3.view (Rect.unit ![0, 0] S40x1024.size inb_S40x1024_S40x1024_0_0).toLoadRect (h3.unread x2)

theorem loadZeros_eq : loadZeros a3 h3 x2 = x2 := by
  unfold loadZeros
  rw [View.readAt_eq_ld, h3.read_unread]
  funext y
  refine View.ld_unit_apply_of x2 _ _ _ _ _ fun a => ?_
  match a with
  | ⟨0, _⟩ => exact (Nat.zero_add _).symm
  | ⟨1, _⟩ => exact (Nat.zero_add _).symm

/-- The one store into the zero-point scratch. -/
theorem zeroStores :
    kernelRun0_A.sl.HS1_1 (F := Ideal) c a3 h3 x2
      = [⟨Rect.unit ![0, 0, 0] S40x2x1024.size inb_S40x2x1024_S40x2x1024_0_0_0, zeroBlock (loadZeros a3 h3 x2)⟩] := rfl

/-- The filled zero-point scratch. -/
theorem zeroScratch_eq (y : S40x2x1024.Idx) :
    View.canon (kernelRun0_A.sl.HS1_1 (F := Ideal) c a3 h3 x2) y = zeroBlock (F := Ideal) x2 y := by
  rw [zeroStores, loadZeros_eq]
  refine congrFun (View.canon_unit_zero ?_ _ _) y
  funext a; match a with
  | ⟨0, _⟩ => rfl
  | ⟨1, _⟩ => rfl
  | ⟨2, _⟩ => rfl

/-- Group `g`'s zero-point rows of column chunk `n`. -/
theorem loadZ_apply (n : Fin 4) (g : Fin 40) (h : Fin 2) (l : Fin 256) :
    loadZ (F := Ideal) c a3 h3 a7 x2 n g (ix3 0 h l)
      = field h.val (x2 (ix2 g ⟨256 * n.val + l.val, by omega⟩)) := by
  unfold loadZ
  rw [View.readCov_eq_canon']
  refine (zeroScratch_eq c a3 h3 x2 _).trans ?_
  rw [← zeroBlock_apply x2 g h ⟨256 * n.val + l.val, by omega⟩]
  refine congrArg (zeroBlock (F := Ideal) x2) (funext fun a => Fin.ext ?_)
  match a with
  | ⟨0, _⟩ => show g.val + 1 * 0 = g.val; omega
  | ⟨1, _⟩ => show 0 + 1 * h.val = h.val; omega
  | ⟨2, _⟩ => show 256 * n.val + 1 * l.val = 256 * n.val + l.val; omega

end Cert.KernelIdeal.Body

end
-- ==== Proof.BlockValue.lean ====
/-
  What one grid point writes back, at an element: the sum over groups and rows of the point's blocks.
-/
module

public import proofs.«01_k».proof.Proof.LoadValue

@[expose] public section

set_option maxRecDepth 16384

noncomputable section

namespace Cert.KernelIdeal.Body

open Cert.KernelIdeal Cert.KernelIdeal.Gen Idealize.ShloMosaic Idealize.ShloMosaic.TcCoe Idealize.SL.Sem Cert.Awq

variable (c : Dev nD)
  (a1 : Memref sig .tc .vmem S40x48x256 .bf16) (h1 : a1.IsWhole)
  (a2 : Memref sig .tc .vmem S5120x1024 .i8) (h2 : a2.IsWhole)
  (a3 : Memref sig .tc .vmem S40x1024 .i8) (h3 : a3.IsWhole)
  (a4 : Memref sig .tc .vmem S40x2048 .bf16) (h4 : a4.IsWhole)
  (a6 : Memref sig .tc .vmem S2x20x2x1024 .bf16) (a7 : Memref sig .tc .vmem S40x2x1024 .bf16)
  (x0 : Vec Ideal S40x48x256 .bf16) (x1 : Vec Ideal S5120x1024 .i8) (x2 : Vec Ideal S40x1024 .i8)
  (x3 : Vec Ideal S40x2048 .bf16)

/-- One group's share of the accumulator at row `r` and packed column `p` of the block. -/
def groupSum (r : Fin 48) (p : Fin 1024) (g : Fin 40) : EReal :=
  ∑ j : Fin 256, x0 (ix3 g r j)
    * ((field (j.val % 2) (x1 (ix2 ⟨128 * g.val + j.val / 2, by omega⟩ p)) - field (j.val % 2) (x2 (ix2 g p)))
        * x3 (ix2 g ⟨2 * p.val + j.val % 2, by omega⟩))

/-- The block's element at row `r` and column `col`: the accumulator's row for that column's parity, at the packed
    column. -/
def blockAt (r : Fin 24) (col : Fin 2048) : EReal :=
  ∑ g : Fin 40, groupSum x0 x1 x2 x3 ⟨(col.val % 2) * 24 + r.val, by omega⟩ ⟨col.val / 2, by omega⟩ g

/-- A column chunk's accumulator at an element. -/
theorem acc_apply (n : Fin 4) (r : Fin 48) (l : Fin 256) :
    acc (F := Ideal) c a1 h1 a2 h2 a3 h3 a4 h4 a6 a7 x0 x1 x2 x3 n (ix2 r l)
      = ∑ g : Fin 40, groupSum x0 x1 x2 x3 r ⟨256 * n.val + l.val, by omega⟩ g := by
  unfold acc
  refine (chain_apply _ _ _ _ (groupSum x0 x1 x2 x3 r ⟨256 * n.val + l.val, by omega⟩) r l (fun g => ?_) 40 le_rfl).trans rfl
  refine Finset.sum_congr rfl fun j _ => ?_
  rw [loadX_apply, loadQ_apply, loadS_apply, loadZ_apply]

/-- A chunk's first 256 result lanes are the block there. -/
theorem left_apply (n : Fin 4) (off : ℕ) (ho : off = 512 * n.val) (inb) (x : S24x256.Idx) :
    outLeft (F := Ideal) (acc c a1 h1 a2 h2 a3 h3 a4 h4 a6 a7 x0 x1 x2 x3 n) x
      = (fun y : S24x2048.Idx => blockAt x0 x1 x2 x3 (y 0) (y 1))
          ((Rect.unit (s := S24x2048) ![0, off] S24x256.size inb).emb x) := by
  obtain ⟨r, l, rfl⟩ : ∃ (r : Fin 24) (l : Fin 256), x = ix2 r l :=
    ⟨x 0, x 1, funext fun a => match a with
      | ⟨0, _⟩ => rfl
      | ⟨1, _⟩ => rfl⟩
  subst ho
  rw [outLeft_apply, acc_apply]
  have e0 : ((Rect.unit (s := S24x2048) ![0, 512 * n.val] S24x256.size inb).emb (ix2 r l)) 0 = r :=
    Fin.ext (by show 0 + 1 * r.val = r.val; omega)
  have e1 : ((Rect.unit (s := S24x2048) ![0, 512 * n.val] S24x256.size inb).emb (ix2 r l)) 1
      = (⟨512 * n.val + l.val, by omega⟩ : Fin 2048) :=
    Fin.ext (by show 512 * n.val + 1 * l.val = 512 * n.val + l.val; omega)
  show _ = blockAt x0 x1 x2 x3 _ _
  rw [e0, e1, blockAt]
  refine Finset.sum_congr rfl fun g _ => ?_
  congr 1
  · exact Fin.ext (by show l.val % 2 * 24 + r.val = (512 * n.val + l.val) % 2 * 24 + r.val; omega)
  · exact Fin.ext (by show 256 * n.val + l.val / 2 = (512 * n.val + l.val) / 2; omega)

/-- A chunk's last 256 result lanes are the block there. -/
theorem right_apply (n : Fin 4) (off : ℕ) (ho : off = 512 * n.val + 256) (inb) (x : S24x256.Idx) :
    outRight (F := Ideal) (acc c a1 h1 a2 h2 a3 h3 a4 h4 a6 a7 x0 x1 x2 x3 n) x
      = (fun y : S24x2048.Idx => blockAt x0 x1 x2 x3 (y 0) (y 1))
          ((Rect.unit (s := S24x2048) ![0, off] S24x256.size inb).emb x) := by
  obtain ⟨r, l, rfl⟩ : ∃ (r : Fin 24) (l : Fin 256), x = ix2 r l :=
    ⟨x 0, x 1, funext fun a => match a with
      | ⟨0, _⟩ => rfl
      | ⟨1, _⟩ => rfl⟩
  subst ho
  rw [outRight_apply, acc_apply]
  have e0 : ((Rect.unit (s := S24x2048) ![0, 512 * n.val + 256] S24x256.size inb).emb (ix2 r l)) 0 = r :=
    Fin.ext (by show 0 + 1 * r.val = r.val; omega)
  have e1 : ((Rect.unit (s := S24x2048) ![0, 512 * n.val + 256] S24x256.size inb).emb (ix2 r l)) 1
      = (⟨512 * n.val + 256 + l.val, by omega⟩ : Fin 2048) :=
    Fin.ext (by show 512 * n.val + 256 + 1 * l.val = 512 * n.val + 256 + l.val; omega)
  show _ = blockAt x0 x1 x2 x3 _ _
  rw [e0, e1, blockAt]
  refine Finset.sum_congr rfl fun g _ => ?_
  congr 1
  · exact Fin.ext (by show l.val % 2 * 24 + r.val = (512 * n.val + 256 + l.val) % 2 * 24 + r.val; omega)
  · exact Fin.ext (by show 256 * n.val + (128 + l.val / 2) = (512 * n.val + 256 + l.val) / 2; omega)

/-- WHAT A POINT LEAVES IN ITS RESULT BLOCK, at an element. -/
theorem out_apply (i : grid0.Coords) (a5 : Memref sig .tc .vmem S24x2048 .bf16) (h5 : a5.IsWhole) (h6 : a6.IsWhole)
    (h7 : a7.IsWhole) (r : Fin 24) (col : Fin 2048) :
    out0_A_4 (F := Ideal) c i a1 h1 a2 h2 a3 h3 a4 h4 a5 h5 a6 h6 a7 h7 x0 x1 x2 x3 (ix2 r col)
      = blockAt x0 x1 x2 x3 r col := by
  unfold out0_A_4
  rw [View.read_writes_junk_eq_canon, stores]
  refine View.canon_apply_of_pieces (Val := Elt Ideal) (e := .bf16) (S := S24x2048)
    (fun y : S24x2048.Idx => blockAt x0 x1 x2 x3 (y 0) (y 1)) _ ?_ (ix2 r col) ?_
  swap
  · exact View.cover_of_tiledL (s := S24x2048) _ ![24, 256] (by rfl) _
  simp only [List.forall_mem_cons, List.not_mem_nil, false_imp_iff, implies_true, and_true]
  exact ⟨right_apply c a1 h1 a2 h2 a3 h3 a4 h4 a6 a7 x0 x1 x2 x3 3 1792 rfl _,
    left_apply c a1 h1 a2 h2 a3 h3 a4 h4 a6 a7 x0 x1 x2 x3 3 1536 rfl _,
    right_apply c a1 h1 a2 h2 a3 h3 a4 h4 a6 a7 x0 x1 x2 x3 2 1280 rfl _,
    left_apply c a1 h1 a2 h2 a3 h3 a4 h4 a6 a7 x0 x1 x2 x3 2 1024 rfl _,
    right_apply c a1 h1 a2 h2 a3 h3 a4 h4 a6 a7 x0 x1 x2 x3 1 768 rfl _,
    left_apply c a1 h1 a2 h2 a3 h3 a4 h4 a6 a7 x0 x1 x2 x3 1 512 rfl _,
    right_apply c a1 h1 a2 h2 a3 h3 a4 h4 a6 a7 x0 x1 x2 x3 0 256 rfl _,
    left_apply c a1 h1 a2 h2 a3 h3 a4 h4 a6 a7 x0 x1 x2 x3 0 0 rfl _⟩

end Cert.KernelIdeal.Body

end
-- ==== Proof.Equation.lean ====
/-
  The equation: a block's sum over groups and interleaved rows is the sum over the input rows. In each pair of rows one
  meets a zero activation — the row of the other field — and drops out; the other is the weight of the column's field.
-/
module

public import proofs.«01_k».proof.Proof.BlockValue

@[expose] public section

set_option maxRecDepth 16384

noncomputable section

namespace Cert.KernelIdeal.Body

open Cert.KernelIdeal Cert.KernelIdeal.Gen Idealize.ShloMosaic Idealize.ShloMosaic.TcCoe Idealize.SL.Sem Cert.Awq

variable (x : SX.Idx → EReal) (q : SQ.Idx → BitVec 8) (z : SZ.Idx → BitVec 8) (s : SS.Idx → EReal)
variable (x0 : Vec Ideal S40x48x256 .bf16) (x1 : Vec Ideal S5120x1024 .i8) (x2 : Vec Ideal S40x1024 .i8)
  (x3 : Vec Ideal S40x2048 .bf16) (t : Fin 27)

/-- The blocks of point `t`, in the words of the arrays. -/
structure Blocks : Prop where
  /-- row `24h + r` of the activations: row `r` on the lanes of parity `h`, zeros on the others -/
  acts : ∀ (g : Fin 40) (r : Fin 24) (h : Fin 2) (ρ : Fin 48), ρ.val = h.val * 24 + r.val → ∀ j : Fin 256,
    x0 (ix3 g ρ j) = if j.val % 2 = h.val then x (ix3 r 0 ⟨128 * g.val + j.val / 2, by omega⟩) else 0
  /-- the packed weights' 1024 columns -/
  packed : ∀ (d : Fin 5120) (p : Fin 1024), x1 (ix2 d p) = q (ix2 d ⟨1024 * t.val + p.val, by omega⟩)
  /-- the packed zero points' 1024 columns -/
  zeros : ∀ (g : Fin 40) (p : Fin 1024), x2 (ix2 g p) = z (ix2 g ⟨1024 * t.val + p.val, by omega⟩)
  /-- the scales' 2048 columns -/
  scales : ∀ (g : Fin 40) (l : Fin 2048), x3 (ix2 g l) = s (ix2 g ⟨2048 * t.val + l.val, by omega⟩)

variable {x q z s x0 x1 x2 x3 t}

/-- One row of the interleaved 256 of a group: the activation times the weight where the row's field is the column's,
    nothing elsewhere. -/
theorem row_eq (B : Blocks x q z s x0 x1 x2 x3 t) (r : Fin 24) (h : Fin 2) (ρ : Fin 48) (hρ : ρ.val = h.val * 24 + r.val)
    (p : Fin 1024) (col : Fin 55296) (hcol : col.val = 2 * (1024 * t.val + p.val) + h.val) (g : Fin 40) (j : Fin 256)
    (d : Fin 5120) (hd : d.val = 128 * g.val + j.val / 2) :
    x0 (ix3 g ρ j) * ((field (j.val % 2) (x1 (ix2 ⟨128 * g.val + j.val / 2, by omega⟩ p)) - field (j.val % 2) (x2 (ix2 g p)))
        * x3 (ix2 g ⟨2 * p.val + j.val % 2, by omega⟩))
      = if j.val % 2 = h.val then x (ix3 r 0 d) * weight q z s d col else 0 := by
  have hh := h.isLt
  rw [B.acts g r h ρ hρ j, B.packed, B.zeros, B.scales]
  by_cases e : j.val % 2 = h.val
  · rw [if_pos e, if_pos e, weight]
    have ed : (⟨128 * g.val + j.val / 2, by omega⟩ : Fin 5120) = d := Fin.ext hd.symm
    have e1 : col.val % 2 = j.val % 2 := by omega
    have e2 : (⟨col.val / 2, by omega⟩ : Fin 27648) = ⟨1024 * t.val + p.val, by omega⟩ := Fin.ext (by simp; omega)
    have e3 : (⟨d.val / 128, by omega⟩ : Fin 40) = g := Fin.ext (by simp; omega)
    have e4 : (⟨2048 * t.val + (⟨2 * p.val + j.val % 2, by omega⟩ : Fin 2048).val, by simp; omega⟩ : Fin 55296) = col :=
      Fin.ext (by simp; omega)
    rw [ed, e1, e2, e3, e4]
  · rw [if_neg e, if_neg e, zero_mul]

/-- One group's share is the sum over the group's 128 input rows. -/
theorem groupSum_eq (B : Blocks x q z s x0 x1 x2 x3 t) (r : Fin 24) (h : Fin 2) (ρ : Fin 48)
    (hρ : ρ.val = h.val * 24 + r.val) (p : Fin 1024) (col : Fin 55296)
    (hcol : col.val = 2 * (1024 * t.val + p.val) + h.val) (g : Fin 40) :
    groupSum x0 x1 x2 x3 ρ p g
      = ∑ k : Fin 128, x (ix3 r 0 ⟨g.val * 128 + k.val, by omega⟩) * weight q z s ⟨g.val * 128 + k.val, by omega⟩ col := by
  unfold groupSum
  refine (Fin.sum_mul_add_congr (S := 128) (n := 2) (F := fun k h' => if h'.val = h.val then
    x (ix3 r 0 ⟨g.val * 128 + k.val, by omega⟩) * weight q z s ⟨g.val * 128 + k.val, by omega⟩ col else 0)
    (fun k h' hl => ?_)).symm.trans ?_
  · rw [row_eq B r h ρ hρ p col hcol g ⟨k.val * 2 + h'.val, hl⟩ ⟨g.val * 128 + k.val, by omega⟩ (by simp; omega)]
    have e : (k.val * 2 + h'.val) % 2 = h'.val := by omega
    simp only [e]
  · refine Finset.sum_congr rfl fun k _ => ?_
    refine (Finset.sum_eq_single h (fun b _ hb => if_neg fun e => hb (Fin.ext e)) (fun hn => absurd (Finset.mem_univ h) hn)).trans ?_
    exact if_pos rfl

/-- A block's element is the result's. -/
theorem blockAt_eq (B : Blocks x q z s x0 x1 x2 x3 t) (r : Fin 24) (l : Fin 2048) (col : Fin 55296)
    (hcol : col.val = 2048 * t.val + l.val) : blockAt x0 x1 x2 x3 r l = result x q z s r col := by
  unfold blockAt result
  refine (Finset.sum_congr rfl fun g _ => groupSum_eq B r ⟨l.val % 2, by omega⟩ _ rfl ⟨l.val / 2, by omega⟩ col
    (by simp; omega) g).trans ?_
  exact Fin.sum_mul_add_congr (S := 40) (n := 128) fun g k hl => rfl

end Cert.KernelIdeal.Body

end
-- ==== Proof.HostValue.lean ====
/-
  The activations as the host lays them out for the kernel, at an element: row `24h + r` of a group holds row `r`'s
  activations on the lanes of parity `h` and zeros on the others.
-/
module

public import proofs.«01_k».proof.Proof.Gen.KernelIdeal.Value
public import Idealize.ShloMosaic.Lib.Pipeline.ValueKit
public import Idealize.ShloMosaic.PureOps.Ideal.Laws

@[expose] public section

set_option maxRecDepth 16384

noncomputable section

namespace Cert.KernelIdeal.Body

open Cert.KernelIdeal Cert.KernelIdeal.Gen Idealize.ShloMosaic Idealize.ShloMosaic.TcCoe Idealize.SL.Sem

/-- The activations by groups, one lane each. -/
def grouped (x : S24x1x5120.Idx → EReal) : Vec Ideal S40x24x128x1 .bf16 :=
  broadcastInDim S40x24x128x1 ![0, 1, 2] bcast_S40x24x128_S40x24x128x1_0_1_2
    (transpose S40x24x128 [1, 0, 2] (shapeCast S24x40x128 x shapeCasts_S24x1x5120_S24x40x128)
      transposes_S24x40x128_S40x24x128_1_0_2)

/-- Zeros of that shape. -/
def zeros : Vec Ideal S40x24x128x1 .bf16 :=
  broadcastInDim S40x24x128x1 ![0, 1, 2] bcast_S40x24x128_S40x24x128x1_0_1_2
    (broadcastInDim S40x24x128 ![] bcast_S_S40x24x128 (constant (F := Ideal) S_ .bf16 0x0000#16))

/-- Two arrays of lanes, alternating. -/
def alternate (a b : Vec Ideal S40x24x128x1 .bf16) : Vec Ideal S40x24x256 .bf16 :=
  shapeCast S40x24x256 (concatenate S40x24x128x2 3 [⟨S40x24x128x1, a⟩, ⟨S40x24x128x1, b⟩]
    concatenates_S40x24x128x1_S40x24x128x1_S40x24x128x2_d3) shapeCasts_S40x24x128x2_S40x24x256

/-- The layout the host gives the activations. -/
def laid (x : S24x1x5120.Idx → EReal) : Vec Ideal S40x48x256 .bf16 :=
  concatenate S40x48x256 1 [⟨S40x24x256, alternate (grouped x) zeros⟩, ⟨S40x24x256, alternate zeros (grouped x)⟩]
    concatenates_S40x24x256_S40x24x256_S40x48x256_d1

theorem grouped_apply (x : S24x1x5120.Idx → EReal) (g : Fin 40) (r : Fin 24) (k : Fin 128) :
    grouped x (ix4 g r k 0) = x (ix3 r 0 ⟨128 * g.val + k.val, by omega⟩) := by
  unfold grouped
  pointwise
  refine congrArg (fun k => x (ix3 r 0 k)) (Fin.ext ?_)
  show g.val * 128 + k.val = 128 * g.val + k.val
  omega

theorem zeros_apply (i : S40x24x128x1.Idx) : zeros i = (0 : EReal) := by
  unfold zeros
  pointwise

theorem alternate_apply (a b : Vec Ideal S40x24x128x1 .bf16) (g : Fin 40) (r : Fin 24) (j : Fin 256) :
    alternate a b (ix3 g r j)
      = if j.val % 2 = 0 then a (ix4 g r ⟨j.val / 2, by omega⟩ 0) else b (ix4 g r ⟨j.val / 2, by omega⟩ 0) := by
  unfold alternate
  pointwise
  by_cases h : j.val % 2 = 0
  · rw [dif_pos (by omega), if_pos h]
    exact congrArg (fun k => a (ix4 g r _ k)) (Fin.ext h)
  · rw [dif_neg (by omega), if_neg h]
    exact congrArg (fun k => b (ix4 g r _ k)) (Fin.ext (by show j.val % 2 - 1 = 0; omega))

/-- The laid-out activations at an element. -/
theorem laid_apply (x : S24x1x5120.Idx → EReal) (g : Fin 40) (r : Fin 24) (h : Fin 2) (ρ : Fin 48)
    (hρ : ρ.val = h.val * 24 + r.val) (j : Fin 256) :
    laid x (ix3 g ρ j)
      = if j.val % 2 = h.val then x (ix3 r 0 ⟨128 * g.val + j.val / 2, by omega⟩) else (0 : EReal) := by
  unfold laid
  pointwise
  match h, hρ with
  | 0, hρ =>
    have e : ρ.val = r.val := hρ.trans (Nat.zero_add _)
    rw [dif_pos (by omega), alternate_apply, zeros_apply, show (⟨ρ.val, by omega⟩ : Fin 24) = r from Fin.ext e,
      grouped_apply]
    rfl
  | 1, hρ =>
    have e : ρ.val = 24 + r.val := hρ
    rw [dif_neg (by omega), alternate_apply, zeros_apply, show (⟨ρ.val - 24, by omega⟩ : Fin 24) = r from Fin.ext (by simp; omega),
      grouped_apply]
    by_cases h : j.val % 2 = 0
    · rw [if_pos h, if_neg (by rw [h]; decide)]
    · rw [if_neg h]
      exact (if_pos (show j.val % 2 = 1 by omega)).symm

/-- The region finds that layout in the window's array. -/
theorem entry_laid (m : (ℓ : Loc nD τ sig) → Buf (Elt Ideal) ℓ) (c : Dev nD) :
    V m c main_v11 = laid (m ((c : Thread nD τ).loc main_arg0)) := by
  unfold laid alternate grouped zeros
  rfl

end Cert.KernelIdeal.Body

end
-- ==== Proof.KernelValue.lean ====
/-
  The kernel's result array after the run, at an element: every grid point's block is the result there, and the blocks
  cover the array.
-/
module

public import proofs.«01_k».proof.Proof.Equation
public import proofs.«01_k».proof.Proof.HostValue

@[expose] public section

set_option maxRecDepth 16384

noncomputable section

namespace Cert.KernelIdeal.Body

open Cert.KernelIdeal Cert.KernelIdeal.Gen Idealize.ShloMosaic Idealize.ShloMosaic.TcCoe Idealize.SL.Sem Cert.Awq
open Idealize.ShloMosaic.Pipeline (Dat)

variable (m : (ℓ : Loc nD τ sig) → Buf (Elt Ideal) ℓ)

/-- Where each window's block lies at each point. -/
theorem index_at : ∀ t : Fin cfg0.N, win0_0.index t = ![0, 0, 0] ∧ win0_1.index t = ![0, t.val]
    ∧ win0_2.index t = ![0, t.val] ∧ win0_3.index t = ![0, t.val] ∧ win0_4.index t = ![0, t.val] := by
  decide +kernel

/-- Every point's blocks are the arrays' there. -/
theorem blocks_at (c : Dev nD) (t : Fin cfg0.N) :
    Blocks (m ((c : Thread nD τ).loc main_arg0)) (m ((c : Thread nD τ).loc main_arg1)) (m ((c : Thread nD τ).loc main_arg2))
      (m ((c : Thread nD τ).loc main_arg3)) (iblk m c 0 t) (iblk m c 1 t) (iblk m c 2 t) (iblk m c 3 t) t where
  acts g r h ρ hρ j := by
    rw [← laid_apply (m ((c : Thread nD τ).loc main_arg0)) g r h ρ hρ j, ← entry_laid]
    blk_ext [iblk, index_at t]
  packed d p := by
    rw [← V_main_arg1 m c]
    blk_ext [iblk, index_at t]
  zeros g p := by
    rw [← V_main_arg2 m c]
    blk_ext [iblk, index_at t]
  scales g l := by
    rw [← V_main_arg3 m c]
    blk_ext [iblk, index_at t]

/-- THE RESULT ARRAY AFTER THE RUN. -/
theorem array_eq (c : Dev nD) : (dats m 0 c).arrAt 4 cfg0.N
    = fun i : S24x55296.Idx => result (m ((c : Thread nD τ).loc main_arg0)) (m ((c : Thread nD τ).loc main_arg1))
        (m ((c : Thread nD τ).loc main_arg2)) (m ((c : Thread nD τ).loc main_arg3)) (i 0) (i 1) := by
  refine (dats m 0 c).arrAt_eq_of_covers 4 _ (by decide +kernel) fun t hf y => ?_
  rw [after0_4]
  unfold outsAt0
  obtain ⟨r, l, e, e0, e1⟩ : ∃ (r : Fin 24) (l : Fin 2048),
      (cfg0.win 4).xinj (cfg0.grid.coords t) y = (ix2 r l : S24x2048.Idx)
      ∧ ((cfg0.win 4).blk t).view.emb y 0 = r ∧ (((cfg0.win 4).blk t).view.emb y 1).val = 2048 * t.val + l.val := by
    refine ⟨y 0, y 1, ?_, Fin.ext ?_, ?_⟩
    · funext a
      match a with
      | ⟨0, _⟩ => rfl
      | ⟨1, _⟩ => rfl
    · blk_simp [index_at t]
    · blk_simp [index_at t]
      omega
  change out0_A_4 (F := Ideal) c (grid0.coords t) (ms0_0 t) (hs0_0 t) (ms0_1 t) (hs0_1 t) (ms0_2 t) (hs0_2 t) (ms0_3 t)
    (hs0_3 t) (ms0_4 t) (hs0_4 t) scM0_0 (Memref.isWhole_whole _) scM0_1 (Memref.isWhole_whole _) (iblk m c 0 t)
    (iblk m c 1 t) (iblk m c 2 t) (iblk m c 3 t) ((cfg0.win 4).xinj (cfg0.grid.coords t) y) = _
  rw [e, out_apply, e0]
  exact blockAt_eq (blocks_at m c t) r l _ e1

end Cert.KernelIdeal.Body

end
-- ==== Proof.Claims.lean ====
/-
  The claims, each from the module that carries its argument: the frames are the generated ones, the rewrites' statements
  are the rules' own theorems, and the equation is `reference_apply` against `array_eq`.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.RefValue
public import proofs.«01_k».proof.Proof.KernelValue
public import Idealize.ShloMosaic.Lib.Bf16Pair
public import Idealize.ShloMosaic.Lib.Bf16PairInverse

@[expose] public section

noncomputable section

namespace Cert.Proof.Claims

open Idealize.ShloMosaic Idealize.SL.Sem

/-- The kernel as run, on bits: it terminates, keeps its arguments and leaves every semaphore at zero. -/
theorem frame_kernel : Cert.quiescent_Kernel := fun m ρ _ => Cert.Kernel.Gen.frame m ρ

/-- The same of the kernel at the ideal instance. -/
theorem frame_ideal : Cert.quiescent_KernelIdeal := fun m ρ _ => Cert.KernelIdeal.Gen.frame m ρ

/-- The same of the reference, which has no semaphores. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The ledger's ten distinct statements: the two scratch buffers of words held as pairs of rows, then the words and rows
    of each shape a bit-cast, a load or a store meets. -/
theorem preserves : Cert.preserves_Kernel_KernelIdeal :=
  open Cert.KernelIdeal IdealRules.bf16_pair in
  ⟨bufferStatement S2x20x2x1024 S2x20x1x1024, bufferStatement S40x2x1024 S40x1x1024, statement S40x2048 S20x2048,
  statement S40x128 S20x128, statement S1x20x2x128 S1x20x1x128, statement S80x1024 S40x1024, statement S40x2x1024 S40x1x1024,
  statement S1x1x2x256 S1x1x1x256, statement S2x256 S1x256, statement S1x2x256 S1x1x256⟩

/-- The kernel's result array is the reference's, element by element: both are `Cert.Awq.result` of the arguments. -/
theorem algebraic : Cert.algebraic_KernelIdeal_ReferenceIdeal := by
  intro m ρ m' ρ' _ hagree
  refine ⟨fun c => (Cert.KernelIdeal.Gen.dats m 0 c).arrAt 4 Cert.KernelIdeal.cfg0.N,
    Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v49_eq (F := Ideal) _ _ _ _).trans ?_
  rw [(hagree c).1, (hagree c).2.1, (hagree c).2.2.1, (hagree c).2.2.2]
  refine Eq.trans ?_ (Cert.KernelIdeal.Body.array_eq m c).symm
  funext i
  refine (congrArg _ ?_).trans (Cert.Awq.reference_apply _ _ _ _ (i 0) (i 1))
  funext a
  match a with
  | ⟨0, _⟩ => rfl
  | ⟨1, _⟩ => rfl

end Cert.Proof.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The five claims, with the generated witnesses of the programs' stated facts. -/
theorem claim : Cert.Claim := ⟨Cert.Kernel.Gen.facts, Cert.KernelIdeal.Gen.facts, Cert.ReferenceIdeal.Gen.facts,
  Claims.frame_kernel, Claims.frame_ideal, Claims.frame_reference, Claims.preserves, Claims.algebraic⟩

end Cert.Proof

end
